-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S3x256x7168 : Shape := ⟨3, ![3, 256, 7168]⟩
abbrev S7168x6x320 : Shape := ⟨3, ![7168, 6, 320]⟩
abbrev S6x2x192x160 : Shape := ⟨4, ![6, 2, 192, 160]⟩
abbrev S3x256x6x16 : Shape := ⟨4, ![3, 256, 6, 16]⟩
abbrev S_ : Shape := ⟨0, ![]⟩

class Facts : Prop where
  bcast_S_S3x256x6x16 : S_.BroadcastsInDim S3x256x6x16 (![] : Fin 0 → Fin S3x256x6x16.rank)
  reducesTo_S3x256x6x16_S_d0_1_2_3 : S3x256x6x16.ReducesTo [0, 1, 2, 3] S_
  h_S_ : 0 < S_.numel

variable [Facts]

def fn {F : FTy → Type} [FloatOps F] (main_arg0 : FVec F S3x256x7168 .bf16) (main_arg1 : FVec F S7168x6x320 .bf16) (main_arg2 : FVec F S6x2x192x160 .bf16) (main_arg3 : IVec S3x256x6x16 32) (main_arg4 : IVec S3x256x6x16 32) : IVec S_ 1 :=
  let main_c : IVec S_ 32 := constantI S_ 32 0#32
  let main_v0 : IVec S3x256x6x16 32 := broadcastInDim S3x256x6x16 ![] bcast_S_S3x256x6x16 main_c
  let main_v1 : IVec S3x256x6x16 1 := cmpi .sge main_arg3 main_v0
  let main_c_0 : IVec S_ 1 := constantI S_ 1 1#1
  let main_v2 : IVec S_ 1 := (fun x v => Host.reduce IntOp.andi x v reducesTo_S3x256x6x16_S_d0_1_2_3 h_S_) main_v1 main_c_0
  let main_c_1 : IVec S_ 32 := constantI S_ 32 192#32
  let main_v3 : IVec S3x256x6x16 32 := broadcastInDim S3x256x6x16 ![] bcast_S_S3x256x6x16 main_c_1
  let main_v4 : IVec S3x256x6x16 1 := cmpi .slt main_arg3 main_v3
  let main_c_2 : IVec S_ 1 := constantI S_ 1 1#1
  let main_v5 : IVec S_ 1 := (fun x v => Host.reduce IntOp.andi x v reducesTo_S3x256x6x16_S_d0_1_2_3 h_S_) main_v4 main_c_2
  let main_v6 : IVec S_ 1 := andi main_v2 main_v5
  let main_c_3 : IVec S_ 32 := constantI S_ 32 0#32
  let main_v7 : IVec S3x256x6x16 32 := broadcastInDim S3x256x6x16 ![] bcast_S_S3x256x6x16 main_c_3
  let main_v8 : IVec S3x256x6x16 1 := cmpi .sge main_arg4 main_v7
  let main_c_4 : IVec S_ 1 := constantI S_ 1 1#1
  let main_v9 : IVec S_ 1 := (fun x v => Host.reduce IntOp.andi x v reducesTo_S3x256x6x16_S_d0_1_2_3 h_S_) main_v8 main_c_4
  let main_v10 : IVec S_ 1 := andi main_v6 main_v9
  let main_c_5 : IVec S_ 32 := constantI S_ 32 192#32
  let main_v11 : IVec S3x256x6x16 32 := broadcastInDim S3x256x6x16 ![] bcast_S_S3x256x6x16 main_c_5
  let main_v12 : IVec S3x256x6x16 1 := cmpi .slt main_arg4 main_v11
  let main_c_6 : IVec S_ 1 := constantI S_ 1 1#1
  let main_v13 : IVec S_ 1 := (fun x v => Host.reduce IntOp.andi x v reducesTo_S3x256x6x16_S_d0_1_2_3 h_S_) main_v12 main_c_6
  let main_v14 : IVec S_ 1 := andi main_v10 main_v13
  main_v14
-- ==== Kernel.lean ====
abbrev S3x256x7168 : Shape := ⟨3, ![3, 256, 7168]⟩
abbrev S7168x6x320 : Shape := ⟨3, ![7168, 6, 320]⟩
abbrev S6x2x192x160 : Shape := ⟨4, ![6, 2, 192, 160]⟩
abbrev S3x256x6x16 : Shape := ⟨4, ![3, 256, 6, 16]⟩
abbrev S768x7168 : Shape := ⟨2, ![768, 7168]⟩
abbrev S768x96 : Shape := ⟨2, ![768, 96]⟩
abbrev S6x2x160x192 : Shape := ⟨4, ![6, 2, 160, 192]⟩
abbrev S_ : Shape := ⟨0, ![]⟩
abbrev S6x2x160x256 : Shape := ⟨4, ![6, 2, 160, 256]⟩
abbrev S3x4x160x256 : Shape := ⟨4, ![3, 4, 160, 256]⟩
abbrev S4x4 : Shape := ⟨2, ![4, 4]⟩
abbrev S1x4x1x4x1 : Shape := ⟨5, ![1, 4, 1, 4, 1]⟩
abbrev S3x4x160x1x256 : Shape := ⟨5, ![3, 4, 160, 1, 256]⟩
abbrev S3x4x160x4x256 : Shape := ⟨5, ![3, 4, 160, 4, 256]⟩
abbrev S3x640x1024 : Shape := ⟨3, ![3, 640, 1024]⟩
abbrev S6x320x7168 : Shape := ⟨3, ![6, 320, 7168]⟩
abbrev S1920x7168 : Shape := ⟨2, ![1920, 7168]⟩
abbrev S768x128 : Shape := ⟨2, ![768, 128]⟩
abbrev S640x7168 : Shape := ⟨2, ![640, 7168]⟩
abbrev S1x640x1024 : Shape := ⟨3, ![1, 640, 1024]⟩
abbrev S768x640 : Shape := ⟨2, ![768, 640]⟩
abbrev S640x1024 : Shape := ⟨2, ![640, 1024]⟩
abbrev S768x1024 : Shape := ⟨2, ![768, 1024]⟩
abbrev S768x128x1 : Shape := ⟨3, ![768, 128, 1]⟩

abbrev nBuf : Space → Nat
  | .hbm => 37
  | .vmem => 8
  | .smem => 0
  | _ => 0

abbrev bufTy : (tb : Table) → Fin (tcTables nBuf tb) → BufTy
  | .hbm, ⟨0, _⟩ => ⟨S3x256x7168, .bf16⟩
  | .hbm, ⟨1, _⟩ => ⟨S7168x6x320, .bf16⟩
  | .hbm, ⟨2, _⟩ => ⟨S6x2x192x160, .bf16⟩
  | .hbm, ⟨3, _⟩ => ⟨S3x256x6x16, .i32⟩
  | .hbm, ⟨4, _⟩ => ⟨S3x256x6x16, .i32⟩
  | .hbm, ⟨5, _⟩ => ⟨S768x7168, .bf16⟩
  | .hbm, ⟨6, _⟩ => ⟨S768x96, .i32⟩
  | .hbm, ⟨7, _⟩ => ⟨S768x96, .i32⟩
  | .hbm, ⟨8, _⟩ => ⟨S6x2x160x192, .bf16⟩
  | .hbm, ⟨9, _⟩ => ⟨S_, .i32⟩
  | .hbm, ⟨10, _⟩ => ⟨S_, .bf16⟩
  | .hbm, ⟨11, _⟩ => ⟨S6x2x160x256, .bf16⟩
  | .hbm, ⟨12, _⟩ => ⟨S3x4x160x256, .bf16⟩
  | .hbm, ⟨13, _⟩ => ⟨S4x4, .i32⟩
  | .hbm, ⟨14, _⟩ => ⟨S4x4, .i32⟩
  | .hbm, ⟨15, _⟩ => ⟨S_, .i32⟩
  | .hbm, ⟨16, _⟩ => ⟨S4x4, .i32⟩
  | .hbm, ⟨17, _⟩ => ⟨S4x4, .i32⟩
  | .hbm, ⟨18, _⟩ => ⟨S4x4, .i1⟩
  | .hbm, ⟨19, _⟩ => ⟨S4x4, .bf16⟩
  | .hbm, ⟨20, _⟩ => ⟨S1x4x1x4x1, .bf16⟩
  | .hbm, ⟨21, _⟩ => ⟨S3x4x160x1x256, .bf16⟩
  | .hbm, ⟨22, _⟩ => ⟨S3x4x160x4x256, .bf16⟩
  | .hbm, ⟨23, _⟩ => ⟨S3x4x160x4x256, .bf16⟩
  | .hbm, ⟨24, _⟩ => ⟨S3x4x160x4x256, .bf16⟩
  | .hbm, ⟨25, _⟩ => ⟨S3x640x1024, .bf16⟩
  | .hbm, ⟨26, _⟩ => ⟨S6x320x7168, .bf16⟩
  | .hbm, ⟨27, _⟩ => ⟨S1920x7168, .bf16⟩
  | .hbm, ⟨28, _⟩ => ⟨S_, .i32⟩
  | .hbm, ⟨29, _⟩ => ⟨S_, .i32⟩
  | .hbm, ⟨30, _⟩ => ⟨S768x128, .i32⟩
  | .hbm, ⟨31, _⟩ => ⟨S_, .i32⟩
  | .hbm, ⟨32, _⟩ => ⟨S_, .i32⟩
  | .hbm, ⟨33, _⟩ => ⟨S768x128, .i32⟩
  | .hbm, ⟨34, _⟩ => ⟨S768x128, .f32⟩
  | .hbm, ⟨35, _⟩ => ⟨S768x96, .f32⟩
  | .hbm, ⟨36, _⟩ => ⟨S3x256x6x16, .f32⟩
  | .local _ .vmem, ⟨0, _⟩ => ⟨S768x7168, .bf16⟩
  | .local _ .vmem, ⟨1, _⟩ => ⟨S640x7168, .bf16⟩
  | .local _ .vmem, ⟨2, _⟩ => ⟨S640x7168, .bf16⟩
  | .local _ .vmem, ⟨3, _⟩ => ⟨S1x640x1024, .bf16⟩
  | .local _ .vmem, ⟨4, _⟩ => ⟨S1x640x1024, .bf16⟩
  | .local _ .vmem, ⟨5, _⟩ => ⟨S768x128, .i32⟩
  | .local _ .vmem, ⟨6, _⟩ => ⟨S768x128, .i32⟩
  | .local _ .vmem, ⟨7, _⟩ => ⟨S768x128, .f32⟩
  | _, _ => ⟨S3x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_call1_v0 : Ref sig .tc := ⟨.hbm, 29, rfl⟩
abbrev main_v20 : Ref sig .tc := ⟨.hbm, 30, rfl⟩
abbrev main_c_2 : Ref sig .tc := ⟨.hbm, 31, rfl⟩
abbrev main_call2_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S768x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S640x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S3x256x7168 : Shape := ⟨3, ![3, 256, 7168]⟩
abbrev S7168x6x320 : Shape := ⟨3, ![7168, 6, 320]⟩
abbrev S6x2x192x160 : Shape := ⟨4, ![6, 2, 192, 160]⟩
abbrev S3x256x6x16 : Shape := ⟨4, ![3, 256, 6, 16]⟩
abbrev S3x256x6x320 : Shape := ⟨4, ![3, 256, 6, 320]⟩
abbrev S3x256x6x160 : Shape := ⟨4, ![3, 256, 6, 160]⟩
abbrev S6x1x192x160 : Shape := ⟨4, ![6, 1, 192, 160]⟩
abbrev S6x192x160 : Shape := ⟨3, ![6, 192, 160]⟩
abbrev S6x192x3x256 : Shape := ⟨4, ![6, 192, 3, 256]⟩
abbrev S3x256x6x192 : Shape := ⟨4, ![3, 256, 6, 192]⟩
abbrev S_ : Shape := ⟨0, ![]⟩
abbrev S3x256x6x16x1 : Shape := ⟨5, ![3, 256, 6, 16, 1]⟩
abbrev S1 : Shape := ⟨1, ![1]⟩
abbrev S1x1x1x1x1 : Shape := ⟨5, ![1, 1, 1, 1, 1]⟩
abbrev S3x256x6 : Shape := ⟨3, ![3, 256, 6]⟩
abbrev S3x256x6x1 : Shape := ⟨4, ![3, 256, 6, 1]⟩

abbrev nBuf : Space → Nat
  | .hbm => 76
  | .vmem => 0
  | .smem => 0
  | _ => 0

abbrev bufTy : (tb : Table) → Fin (tcTables nBuf tb) → BufTy
  | .hbm, ⟨0, _⟩ => ⟨S3x256x7168, .bf16⟩
  | .hbm, ⟨1, _⟩ => ⟨S7168x6x320, .bf16⟩
  | .hbm, ⟨2, _⟩ => ⟨S6x2x192x160, .bf16⟩
  | .hbm, ⟨3, _⟩ => ⟨S3x256x6x16, .i32⟩
  | .hbm, ⟨4, _⟩ => ⟨S3x256x6x16, .i32⟩
  | .hbm, ⟨5, _⟩ => ⟨S3x256x6x320, .f32⟩
  | .hbm, ⟨6, _⟩ => ⟨S3x256x6x320, .bf16⟩
  | .hbm, ⟨7, _⟩ => ⟨S3x256x6x160, .bf16⟩
  | .hbm, ⟨8, _⟩ => ⟨S3x256x6x160, .bf16⟩
  | .hbm, ⟨9, _⟩ => ⟨S6x1x192x160, .bf16⟩
  | .hbm, ⟨10, _⟩ => ⟨S6x192x160, .bf16⟩
  | .hbm, ⟨11, _⟩ => ⟨S6x192x3x256, .f32⟩
  | .hbm, ⟨12, _⟩ => ⟨S3x256x6x192, .f32⟩
  | .hbm, ⟨13, _⟩ => ⟨S6x1x192x160, .bf16⟩
  | .hbm, ⟨14, _⟩ => ⟨S6x192x160, .bf16⟩
  | .hbm, ⟨15, _⟩ => ⟨S6x192x3x256, .f32⟩
  | .hbm, ⟨16, _⟩ => ⟨S3x256x6x192, .f32⟩
  | .hbm, ⟨17, _⟩ => ⟨S_, .i32⟩
  | .hbm, ⟨18, _⟩ => ⟨S3x256x6x16, .i32⟩
  | .hbm, ⟨19, _⟩ => ⟨S3x256x6x16, .i1⟩
  | .hbm, ⟨20, _⟩ => ⟨S_, .i32⟩
  | .hbm, ⟨21, _⟩ => ⟨S3x256x6x16, .i32⟩
  | .hbm, ⟨22, _⟩ => ⟨S3x256x6x16, .i32⟩
  | .hbm, ⟨23, _⟩ => ⟨S3x256x6x16, .i32⟩
  | .hbm, ⟨24, _⟩ => ⟨S3x256x6x16x1, .i32⟩
  | .hbm, ⟨25, _⟩ => ⟨S1, .i32⟩
  | .hbm, ⟨26, _⟩ => ⟨S_, .i32⟩
  | .hbm, ⟨27, _⟩ => ⟨S3x256x6x16x1, .i32⟩
  | .hbm, ⟨28, _⟩ => ⟨S3x256x6x16x1, .i1⟩
  | .hbm, ⟨29, _⟩ => ⟨S1x1x1x1x1, .i32⟩
  | .hbm, ⟨30, _⟩ => ⟨S3x256x6x16x1, .i32⟩
  | .hbm, ⟨31, _⟩ => ⟨S3x256x6x16x1, .i1⟩
  | .hbm, ⟨32, _⟩ => ⟨S3x256x6x16x1, .i1⟩
  | .hbm, ⟨33, _⟩ => ⟨S_, .i1⟩
  | .hbm, ⟨34, _⟩ => ⟨S3x256x6x16, .i1⟩
  | .hbm, ⟨35, _⟩ => ⟨S3x256x6x16, .f32⟩
  | .hbm, ⟨36, _⟩ => ⟨S_, .f32⟩
  | .hbm, ⟨37, _⟩ => ⟨S3x256x6x16, .f32⟩
  | .hbm, ⟨38, _⟩ => ⟨S3x256x6x16, .f32⟩
  | .hbm, ⟨39, _⟩ => ⟨S_, .i32⟩
  | .hbm, ⟨40, _⟩ => ⟨S3x256x6x16, .i32⟩
  | .hbm, ⟨41, _⟩ => ⟨S3x256x6x16, .i1⟩
  | .hbm, ⟨42, _⟩ => ⟨S_, .i32⟩
  | .hbm, ⟨43, _⟩ => ⟨S3x256x6x16, .i32⟩
  | .hbm, ⟨44, _⟩ => ⟨S3x256x6x16, .i32⟩
  | .hbm, ⟨45, _⟩ => ⟨S3x256x6x16, .i32⟩
  | .hbm, ⟨46, _⟩ => ⟨S3x256x6x16x1, .i32⟩
  | .hbm, ⟨47, _⟩ => ⟨S1, .i32⟩
  | .hbm, ⟨48, _⟩ => ⟨S_, .i32⟩
  | .hbm, ⟨49, _⟩ => ⟨S3x256x6x16x1, .i32⟩
  | .hbm, ⟨50, _⟩ => ⟨S3x256x6x16x1, .i1⟩
  | .hbm, ⟨51, _⟩ => ⟨S1x1x1x1x1, .i32⟩
  | .hbm, ⟨52, _⟩ => ⟨S3x256x6x16x1, .i32⟩
  | .hbm, ⟨53, _⟩ => ⟨S3x256x6x16x1, .i1⟩
  | .hbm, ⟨54, _⟩ => ⟨S3x256x6x16x1, .i1⟩
  | .hbm, ⟨55, _⟩ => ⟨S_, .i1⟩
  | .hbm, ⟨56, _⟩ => ⟨S3x256x6x16, .i1⟩
  | .hbm, ⟨57, _⟩ => ⟨S3x256x6x16, .f32⟩
  | .hbm, ⟨58, _⟩ => ⟨S_, .f32⟩
  | .hbm, ⟨59, _⟩ => ⟨S3x256x6x16, .f32⟩
  | .hbm, ⟨60, _⟩ => ⟨S3x256x6x16, .f32⟩
  | .hbm, ⟨61, _⟩ => ⟨S3x256x6x16, .f32⟩
  | .hbm, ⟨62, _⟩ => ⟨S_, .f32⟩
  | .hbm, ⟨63, _⟩ => ⟨S3x256x6, .f32⟩
  | .hbm, ⟨64, _⟩ => ⟨S_, .f32⟩
  | .hbm, ⟨65, _⟩ => ⟨S3x256x6, .f32⟩
  | .hbm, ⟨66, _⟩ => ⟨S3x256x6, .f32⟩
  | .hbm, ⟨67, _⟩ => ⟨S3x256x6x1, .f32⟩
  | .hbm, ⟨68, _⟩ => ⟨S3x256x6x16, .f32⟩
  | .hbm, ⟨69, _⟩ => ⟨S3x256x6x16, .f32⟩
  | .hbm, ⟨70, _⟩ => ⟨S3x256x6x16, .f32⟩
  | .hbm, ⟨71, _⟩ => ⟨S_, .f32⟩
  | .hbm, ⟨72, _⟩ => ⟨S3x256x6, .f32⟩
  | .hbm, ⟨73, _⟩ => ⟨S3x256x6x1, .f32⟩
  | .hbm, ⟨74, _⟩ => ⟨S3x256x6x16, .f32⟩
  | .hbm, ⟨75, _⟩ => ⟨S3x256x6x16, .f32⟩
  | _, _ => ⟨S3x256x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_cst : Ref sig .tc := ⟨.hbm, 36, rfl⟩
abbrev main_call0_v14 : Ref sig .tc := ⟨.hbm, 37, rfl⟩
abbrev main_v12 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_cst : Ref sig .tc := ⟨.hbm, 58, rfl⟩
abbrev main_call1_v14 : Ref sig .tc := ⟨.hbm, 59, rfl⟩
abbrev main_v13 : Ref sig .tc := ⟨.hbm, 60, rfl⟩
abbrev main_v14 : Ref sig .tc := ⟨.hbm, 61, rfl⟩
abbrev main_cst : Ref sig .tc := ⟨.hbm, 62, rfl⟩
abbrev main_v15 : Ref sig .tc := ⟨.hbm, 63, rfl⟩
abbrev main_cst_0 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_cst_1 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩

abbrev nD : Nat := 1
abbrev τ : Topo := Topo.v7x

variable {F : FTy → Type} [FloatOps F]
-- ==== Proof.WordBody.lean ====
module

public import proofs.«01_k».proof.Proof.Gen.Kernel.Frame
public import proofs.«01_k».proof.Proof.Gen.Kernel.Skeleton
public import Idealize.ShloMosaic.Lib.Claim
public import Idealize.ShloMosaic.Lib.Pipeline.Value

@[expose] public section

set_option maxRecDepth 16384

noncomputable section

namespace Cert.Kernel.Router

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! One grid point of the router kernel: what its single store leaves in the output's staging buffer,
as a function of the input blocks and of what that buffer held before. -/

/-- The lane number of every element of a 768 × 128 vector. -/
def lanes : IVec S768x128 32 := iota .tc S768x128 32 [1] iota_S768x128_d1_w32

/-- The router logit of every token and lane, from the four score blocks side by side and the two key indices. -/
def logit (v9 : FVec F S768x1024 .f32) (v11 v13 : IVec S768x128 32) : FVec F S768x128 .f32 :=
  k0_pay13 v9 v13 (k0_pay5 k0_pay4 2#32) (k0_pay9 v9 v13 (k0_pay6 v9 v11) (k0_pay7 v9) (k0_pay8 v13)) (k0_pay10 v9 v11) (k0_pay11 v9 v11) (k0_pay12 v11)

/-- The running maximum over the lanes whose numbers differ in the two lowest bits. -/
def max4 (v9 : FVec F S768x1024 .f32) (v11 v13 : IVec S768x128 32) : FVec F S768x128 .f32 :=
  k0_pay14 lanes v9 v13 (k0_pay5 k0_pay4 2#32) (k0_pay9 v9 v13 (k0_pay6 v9 v11) (k0_pay7 v9) (k0_pay8 v13)) (k0_pay10 v9 v11) (k0_pay11 v9 v11) (k0_pay12 v11)

/-- What a grid point stores, from the scores, the indices and the buffer's contents before. -/
def stored (a : BitVec 32) (v9 : FVec F S768x1024 .f32) (v11 v13 : IVec S768x128 32) (xo : Vec F S768x128 .f32) : FVec F S768x128 .f32 :=
  k0_pay18 a lanes (k0_pay15 lanes (logit v9 v11 v13) (max4 v9 v11 v13) 4#32)
    (k0_pay16 lanes (logit v9 v11 v13) (max4 v9 v11 v13) 4#32) (k0_pay17 lanes (logit v9 v11 v13) (max4 v9 v11 v13) 4#32) xo

/-- The step of grid point `i`: the stored block over the previous contents `xo`. -/
def step (i : grid0.Coords) (x0 : Vec F S768x7168 .bf16) (x1 : Vec F S640x7168 .bf16) (x2 : Vec F S1x640x1024 .bf16) (x3 : Vec F S768x128 .i32) (x4 : Vec F S768x128 .i32) (xo : Vec F S768x128 .f32) : Vec F S768x128 .f32 :=
  stored (BitVec.ofNat 32 (i 0).val) (k0_pay1 x0 x1 x2) (k0_pay2 x3) (k0_pay3 x4) xo

/-- At the first grid point the previous contents do not enter: the kernel selects zeros instead. -/
theorem step_first (i : grid0.Coords) (hi : (i 0).val = 0) (x0 : Vec F S768x7168 .bf16) (x1 : Vec F S640x7168 .bf16) (x2 : Vec F S1x640x1024 .bf16) (x3 : Vec F S768x128 .i32) (x4 : Vec F S768x128 .i32) (xo xo' : Vec F S768x128 .f32) :
    step i x0 x1 x2 x3 x4 xo = step i x0 x1 x2 x3 x4 xo' := by
  unfold step stored
  rw [hi]
  unfold k0_pay18
  rfl

set_option maxHeartbeats 1000000 in
/-- The body's run on whole staging buffers: the pieces the output's buffer ends with, and the triple. -/
noncomputable def kernelRun (c : Dev nD) (i : grid0.Coords) (arg1 : Memref sig .tc .vmem S768x7168 .bf16) (harg1 : arg1.IsWhole) (arg2 : Memref sig .tc .vmem S640x7168 .bf16) (harg2 : arg2.IsWhole) (arg3 : Memref sig .tc .vmem S1x640x1024 .bf16) (harg3 : arg3.IsWhole) (arg4 : Memref sig .tc .vmem S768x128 .i32) (harg4 : arg4.IsWhole) (arg5 : Memref sig .tc .vmem S768x128 .i32) (harg5 : arg5.IsWhole) (arg6 : Memref sig .tc .vmem S768x128 .f32) (harg6 : arg6.IsWhole)
    (x0 : Vec F S768x7168 .bf16) (x1 : Vec F S640x7168 .bf16) (x2 : Vec F S1x640x1024 .bf16) (x3 : Vec F S768x128 .i32) (x4 : Vec F S768x128 .i32) (xo5 : Vec F S768x128 .f32) :
    { L5 : List (View.Piece (Elt F) S768x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc0_router i arg1 harg1 arg2 harg2 arg3 harg3 arg4 harg4 arg5 harg5 arg6 harg6) K } := by
  refine ⟨?_, fun E K => ?run⟩
  case run =>
    simp only [cc0_router_eq_skeleton]; unfold cc0_router_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

/-- The single store covers the whole block. -/
theorem cover (c : Dev nD) (i : grid0.Coords) (arg1 : Memref sig .tc .vmem S768x7168 .bf16) (harg1 : arg1.IsWhole) (arg2 : Memref sig .tc .vmem S640x7168 .bf16) (harg2 : arg2.IsWhole) (arg3 : Memref sig .tc .vmem S1x640x1024 .bf16) (harg3 : arg3.IsWhole) (arg4 : Memref sig .tc .vmem S768x128 .i32) (harg4 : arg4.IsWhole) (arg5 : Memref sig .tc .vmem S768x128 .i32) (harg5 : arg5.IsWhole) (arg6 : Memref sig .tc .vmem S768x128 .f32) (harg6 : arg6.IsWhole)
    (x0 : Vec F S768x7168 .bf16) (x1 : Vec F S640x7168 .bf16) (x2 : Vec F S1x640x1024 .bf16) (x3 : Vec F S768x128 .i32) (x4 : Vec F S768x128 .i32) (xo5 : Vec F S768x128 .f32) (y : S768x128.Idx) :
    ∃ pc ∈ (kernelRun c i arg1 harg1 arg2 harg2 arg3 harg3 arg4 harg4 arg5 harg5 arg6 harg6 x0 x1 x2 x3 x4 xo5).1, y ∈ pc.1.set :=
  View.cover_of_tiledL (kernelRun c i arg1 harg1 arg2 harg2 arg3 harg3 arg4 harg4 arg5 harg5 arg6 harg6 x0 x1 x2 x3 x4 xo5).1 S768x128.size (by sl_kernel_rfl) y

theorem hz2 : (![0, 0] : Fin 2 → Nat) = fun _ => 0 := funext fun a => by fin_cases a <;> rfl
theorem hz3 : (![0, 0, 0] : Fin 3 → Nat) = fun _ => 0 := funext fun a => by fin_cases a <;> rfl

/-- Whatever buffer the pieces are read through, they read as the step. -/
theorem canon_eq (c : Dev nD) (i : grid0.Coords) (arg1 : Memref sig .tc .vmem S768x7168 .bf16) (harg1 : arg1.IsWhole) (arg2 : Memref sig .tc .vmem S640x7168 .bf16) (harg2 : arg2.IsWhole) (arg3 : Memref sig .tc .vmem S1x640x1024 .bf16) (harg3 : arg3.IsWhole) (arg4 : Memref sig .tc .vmem S768x128 .i32) (harg4 : arg4.IsWhole) (arg5 : Memref sig .tc .vmem S768x128 .i32) (harg5 : arg5.IsWhole) (arg6 : Memref sig .tc .vmem S768x128 .f32) (harg6 : arg6.IsWhole)
    (x0 : Vec F S768x7168 .bf16) (x1 : Vec F S640x7168 .bf16) (x2 : Vec F S1x640x1024 .bf16) (x3 : Vec F S768x128 .i32) (x4 : Vec F S768x128 .i32) (xo5 : Vec F S768x128 .f32) :
    View.canon (kernelRun c i arg1 harg1 arg2 harg2 arg3 harg3 arg4 harg4 arg5 harg5 arg6 harg6 x0 x1 x2 x3 x4 xo5).1 = step i x0 x1 x2 x3 x4 xo5 := by
  unfold kernelRun
  dsimp only
  try sl_unfold_words
  rw [View.canon_unit_zero hz2]
  simp only [View.readAt_eq_ld, harg1.read_unread, harg2.read_unread, harg3.read_unread, harg4.read_unread, harg5.read_unread, harg6.read_unread, View.ld_unit_zero (S := S1x640x1024) hz3, View.ld_unit_zero (S := S640x7168) hz2, View.ld_unit_zero (S := S768x128) hz2, View.ld_unit_zero (S := S768x7168) hz2, shapeCast_self]
  rfl

end Cert.Kernel.Router

end
-- ==== Proof.WordRun.lean ====
module

public import proofs.«01_k».proof.Proof.WordBody
public import proofs.«01_k».proof.Proof.Gen.Kernel.Skeleton
public import Idealize.ShloMosaic.Lib.Claim
public import Idealize.ShloMosaic.Lib.Pipeline.Value

@[expose] public section

set_option maxRecDepth 16384

noncomputable section

namespace Cert.Kernel.Router

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The whole run of the router: what the output's buffer holds after each of the three grid points, the body
obligation at every point, and the run of the program with its trailing slice and reshape. -/

abbrev ms0 (t : Fin cfg0.N) : Memref sig .tc .vmem S768x7168 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S640x7168 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x640x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S768x128 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S768x128 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S768x128 .f32 := win0_5.stage (cfg0.slots t 5)
abbrev hs5 (t : Fin cfg0.N) : (ms5 t).IsWhole := hstage0_5 ((cfg0.slots t 5).cast nbuf0_5)

/-- What the output's staging buffer holds after point `n`: the step over what the point before left (over zeros at the first, where the step does not look). -/
def outs (c : Dev nD) : (n : ℕ) → n < cfg0.N → Vec F S768x128 .f32
  | 0, hn => step (grid0.coords ⟨0, hn⟩) (iblk m c 0 ⟨0, hn⟩) (iblk m c 1 ⟨0, hn⟩) (iblk m c 2 ⟨0, hn⟩) (iblk m c 3 ⟨0, hn⟩) (iblk m c 4 ⟨0, hn⟩) (fun _ => FloatOps.ofBits .f32 0#32)
  | n + 1, hn => step (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (outs c n (Nat.lt_of_succ_lt hn))

/-- The proof data: the arrays as the region finds them, each input's buffer left at its block, the output's at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outs m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outs m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- After the first point the output's buffer holds what the point before left. -/
theorem before5 (c : Dev nD) (t : Fin cfg0.N) (h0 : t.val ≠ 0) (d) :
    (dats m 0 c).before 5 t d = outs m c (t.val - 1) (Nat.lt_of_le_of_lt (Nat.sub_le _ _) t.isLt) := by
  have hN : t.val < 3 := lt_of_lt_of_eq t.isLt (show cfg0.N = 3 from N_0)
  rw [Dat.before_out_kept _ 5 rfl t (by omega) (Bool.eq_false_iff.mpr fun h => by have := (flush0_5 _).mp h; dsimp only at this; omega)
    (fun _ => rfl) (fun _ _ => rfl)]
  dsimp only [dats]

theorem coord_val (t : Fin cfg0.N) : (grid0.coords t 0).val = t.val := by
  have ht : t.val < 3 := Nat.lt_of_lt_of_eq t.isLt N_0
  have e0 : (grid0.coords t 0).val = t.val / 1 % 3 := Pipeline.Grid.coords_val t 0 (by decide) rfl
  omega

/-- At every point the step over what the buffer held before is what it holds after. -/
theorem outs_eq (c : Dev nD) (t : Fin cfg0.N) (d) :
    step (grid0.coords t) (iblk m c 0 t) (iblk m c 1 t) (iblk m c 2 t) (iblk m c 3 t) (iblk m c 4 t) ((dats m 0 c).before 5 t d) = outs m c t.val t.isLt := by
  obtain ⟨n, hn⟩ := t
  cases n with
  | zero =>
    unfold outs
    exact step_first _ (coord_val ⟨0, hn⟩) _ _ _ _ _ _ _
  | succ n =>
    rw [before5 m c ⟨n + 1, hn⟩ (Nat.succ_ne_zero n) d]
    conv_rhs => unfold outs
    rfl

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  rw [← outs_eq m c t d5]
  iapply ((kernelRun c (grid0.coords t) _ _ _ _ _ _ _ _ _ _ _ _ (iblk m c 0 t) (iblk m c 1 t) (iblk m c 2 t) (iblk m c 3 t) (iblk m c 4 t) ((dats m 0 c).before 5 t d5)).2 Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro
  exact (View.read_writes_eq_canon _ _ _ (cover c _ _ _ _ _ _ _ _ _ _ _ _ _ _ _ _ _ _ _)).trans (canon_eq c _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run of the program: the pipeline's arrays at what the proof data says, the rest after the trailing host operations, every counter zero. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- The frame claim of the kernel program. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.Kernel.Router

end
-- ==== Proof.Body.lean ====
module

public import proofs.«01_k».proof.Proof.Gen.KernelIdeal.Frame
public import proofs.«01_k».proof.Proof.Gen.KernelIdeal.Skeleton
public import Idealize.ShloMosaic.Lib.Claim
public import Idealize.ShloMosaic.Lib.Pipeline.Value

@[expose] public section

set_option maxRecDepth 16384

noncomputable section

namespace Cert.KernelIdeal.Router

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! One grid point of the router kernel: what its single store leaves in the output's staging buffer,
as a function of the input blocks and of what that buffer held before. -/

/-- The lane number of every element of a 768 × 128 vector. -/
def lanes : IVec S768x128 32 := iota .tc S768x128 32 [1] iota_S768x128_d1_w32

/-- The router logit of every token and lane, from the four score blocks side by side and the two key indices. -/
def logit (v9 : FVec F S768x1024 .f32) (v11 v13 : IVec S768x128 32) : FVec F S768x128 .f32 :=
  k0_pay13 v9 v13 (k0_pay5 k0_pay4 2#32) (k0_pay9 v9 v13 (k0_pay6 v9 v11) (k0_pay7 v9) (k0_pay8 v13)) (k0_pay10 v9 v11) (k0_pay11 v9 v11) (k0_pay12 v11)

/-- The running maximum over the lanes whose numbers differ in the two lowest bits. -/
def max4 (v9 : FVec F S768x1024 .f32) (v11 v13 : IVec S768x128 32) : FVec F S768x128 .f32 :=
  k0_pay14 lanes v9 v13 (k0_pay5 k0_pay4 2#32) (k0_pay9 v9 v13 (k0_pay6 v9 v11) (k0_pay7 v9) (k0_pay8 v13)) (k0_pay10 v9 v11) (k0_pay11 v9 v11) (k0_pay12 v11)

/-- What a grid point stores, from the scores, the indices and the buffer's contents before. -/
def stored (a : BitVec 32) (v9 : FVec F S768x1024 .f32) (v11 v13 : IVec S768x128 32) (xo : Vec F S768x128 .f32) : FVec F S768x128 .f32 :=
  k0_pay18 a lanes (k0_pay15 lanes (logit v9 v11 v13) (max4 v9 v11 v13) 4#32)
    (k0_pay16 lanes (logit v9 v11 v13) (max4 v9 v11 v13) 4#32) (k0_pay17 lanes (logit v9 v11 v13) (max4 v9 v11 v13) 4#32) xo

/-- The step of grid point `i`: the stored block over the previous contents `xo`. -/
def step (i : grid0.Coords) (x0 : Vec F S768x7168 .bf16) (x1 : Vec F S640x7168 .bf16) (x2 : Vec F S1x640x1024 .bf16) (x3 : Vec F S768x128 .i32) (x4 : Vec F S768x128 .i32) (xo : Vec F S768x128 .f32) : Vec F S768x128 .f32 :=
  stored (BitVec.ofNat 32 (i 0).val) (k0_pay1 x0 x1 x2) (k0_pay2 x3) (k0_pay3 x4) xo

/-- At the first grid point the previous contents do not enter: the kernel selects zeros instead. -/
theorem step_first (i : grid0.Coords) (hi : (i 0).val = 0) (x0 : Vec F S768x7168 .bf16) (x1 : Vec F S640x7168 .bf16) (x2 : Vec F S1x640x1024 .bf16) (x3 : Vec F S768x128 .i32) (x4 : Vec F S768x128 .i32) (xo xo' : Vec F S768x128 .f32) :
    step i x0 x1 x2 x3 x4 xo = step i x0 x1 x2 x3 x4 xo' := by
  unfold step stored
  rw [hi]
  unfold k0_pay18
  rfl

set_option maxHeartbeats 1000000 in
/-- The body's run on whole staging buffers: the pieces the output's buffer ends with, and the triple. -/
noncomputable def kernelRun (c : Dev nD) (i : grid0.Coords) (arg1 : Memref sig .tc .vmem S768x7168 .bf16) (harg1 : arg1.IsWhole) (arg2 : Memref sig .tc .vmem S640x7168 .bf16) (harg2 : arg2.IsWhole) (arg3 : Memref sig .tc .vmem S1x640x1024 .bf16) (harg3 : arg3.IsWhole) (arg4 : Memref sig .tc .vmem S768x128 .i32) (harg4 : arg4.IsWhole) (arg5 : Memref sig .tc .vmem S768x128 .i32) (harg5 : arg5.IsWhole) (arg6 : Memref sig .tc .vmem S768x128 .f32) (harg6 : arg6.IsWhole)
    (x0 : Vec F S768x7168 .bf16) (x1 : Vec F S640x7168 .bf16) (x2 : Vec F S1x640x1024 .bf16) (x3 : Vec F S768x128 .i32) (x4 : Vec F S768x128 .i32) (xo5 : Vec F S768x128 .f32) :
    { L5 : List (View.Piece (Elt F) S768x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc0_router i arg1 harg1 arg2 harg2 arg3 harg3 arg4 harg4 arg5 harg5 arg6 harg6) K } := by
  refine ⟨?_, fun E K => ?run⟩
  case run =>
    simp only [cc0_router_eq_skeleton]; unfold cc0_router_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

/-- The single store covers the whole block. -/
theorem cover (c : Dev nD) (i : grid0.Coords) (arg1 : Memref sig .tc .vmem S768x7168 .bf16) (harg1 : arg1.IsWhole) (arg2 : Memref sig .tc .vmem S640x7168 .bf16) (harg2 : arg2.IsWhole) (arg3 : Memref sig .tc .vmem S1x640x1024 .bf16) (harg3 : arg3.IsWhole) (arg4 : Memref sig .tc .vmem S768x128 .i32) (harg4 : arg4.IsWhole) (arg5 : Memref sig .tc .vmem S768x128 .i32) (harg5 : arg5.IsWhole) (arg6 : Memref sig .tc .vmem S768x128 .f32) (harg6 : arg6.IsWhole)
    (x0 : Vec F S768x7168 .bf16) (x1 : Vec F S640x7168 .bf16) (x2 : Vec F S1x640x1024 .bf16) (x3 : Vec F S768x128 .i32) (x4 : Vec F S768x128 .i32) (xo5 : Vec F S768x128 .f32) (y : S768x128.Idx) :
    ∃ pc ∈ (kernelRun c i arg1 harg1 arg2 harg2 arg3 harg3 arg4 harg4 arg5 harg5 arg6 harg6 x0 x1 x2 x3 x4 xo5).1, y ∈ pc.1.set :=
  View.cover_of_tiledL (kernelRun c i arg1 harg1 arg2 harg2 arg3 harg3 arg4 harg4 arg5 harg5 arg6 harg6 x0 x1 x2 x3 x4 xo5).1 S768x128.size (by sl_kernel_rfl) y

theorem hz2 : (![0, 0] : Fin 2 → Nat) = fun _ => 0 := funext fun a => by fin_cases a <;> rfl
theorem hz3 : (![0, 0, 0] : Fin 3 → Nat) = fun _ => 0 := funext fun a => by fin_cases a <;> rfl

/-- Whatever buffer the pieces are read through, they read as the step. -/
theorem canon_eq (c : Dev nD) (i : grid0.Coords) (arg1 : Memref sig .tc .vmem S768x7168 .bf16) (harg1 : arg1.IsWhole) (arg2 : Memref sig .tc .vmem S640x7168 .bf16) (harg2 : arg2.IsWhole) (arg3 : Memref sig .tc .vmem S1x640x1024 .bf16) (harg3 : arg3.IsWhole) (arg4 : Memref sig .tc .vmem S768x128 .i32) (harg4 : arg4.IsWhole) (arg5 : Memref sig .tc .vmem S768x128 .i32) (harg5 : arg5.IsWhole) (arg6 : Memref sig .tc .vmem S768x128 .f32) (harg6 : arg6.IsWhole)
    (x0 : Vec F S768x7168 .bf16) (x1 : Vec F S640x7168 .bf16) (x2 : Vec F S1x640x1024 .bf16) (x3 : Vec F S768x128 .i32) (x4 : Vec F S768x128 .i32) (xo5 : Vec F S768x128 .f32) :
    View.canon (kernelRun c i arg1 harg1 arg2 harg2 arg3 harg3 arg4 harg4 arg5 harg5 arg6 harg6 x0 x1 x2 x3 x4 xo5).1 = step i x0 x1 x2 x3 x4 xo5 := by
  unfold kernelRun
  dsimp only
  try sl_unfold_words
  rw [View.canon_unit_zero hz2]
  simp only [View.readAt_eq_ld, harg1.read_unread, harg2.read_unread, harg3.read_unread, harg4.read_unread, harg5.read_unread, harg6.read_unread, View.ld_unit_zero (S := S1x640x1024) hz3, View.ld_unit_zero (S := S640x7168) hz2, View.ld_unit_zero (S := S768x128) hz2, View.ld_unit_zero (S := S768x7168) hz2, shapeCast_self]
  rfl

end Cert.KernelIdeal.Router

end
-- ==== Proof.Run.lean ====
module

public import proofs.«01_k».proof.Proof.Body
public import proofs.«01_k».proof.Proof.Gen.KernelIdeal.Skeleton
public import Idealize.ShloMosaic.Lib.Claim
public import Idealize.ShloMosaic.Lib.Pipeline.Value

@[expose] public section

set_option maxRecDepth 16384

noncomputable section

namespace Cert.KernelIdeal.Router

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The whole run of the router: what the output's buffer holds after each of the three grid points, the body
obligation at every point, and the run of the program with its trailing slice and reshape. -/

abbrev ms0 (t : Fin cfg0.N) : Memref sig .tc .vmem S768x7168 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S640x7168 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x640x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S768x128 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S768x128 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S768x128 .f32 := win0_5.stage (cfg0.slots t 5)
abbrev hs5 (t : Fin cfg0.N) : (ms5 t).IsWhole := hstage0_5 ((cfg0.slots t 5).cast nbuf0_5)

/-- What the output's staging buffer holds after point `n`: the step over what the point before left (over zeros at the first, where the step does not look). -/
def outs (c : Dev nD) : (n : ℕ) → n < cfg0.N → Vec F S768x128 .f32
  | 0, hn => step (grid0.coords ⟨0, hn⟩) (iblk m c 0 ⟨0, hn⟩) (iblk m c 1 ⟨0, hn⟩) (iblk m c 2 ⟨0, hn⟩) (iblk m c 3 ⟨0, hn⟩) (iblk m c 4 ⟨0, hn⟩) (fun _ => FloatOps.ofBits .f32 0#32)
  | n + 1, hn => step (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (outs c n (Nat.lt_of_succ_lt hn))

/-- The proof data: the arrays as the region finds them, each input's buffer left at its block, the output's at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outs m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outs m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- After the first point the output's buffer holds what the point before left. -/
theorem before5 (c : Dev nD) (t : Fin cfg0.N) (h0 : t.val ≠ 0) (d) :
    (dats m 0 c).before 5 t d = outs m c (t.val - 1) (Nat.lt_of_le_of_lt (Nat.sub_le _ _) t.isLt) := by
  have hN : t.val < 3 := lt_of_lt_of_eq t.isLt (show cfg0.N = 3 from N_0)
  rw [Dat.before_out_kept _ 5 rfl t (by omega) (Bool.eq_false_iff.mpr fun h => by have := (flush0_5 _).mp h; dsimp only at this; omega)
    (fun _ => rfl) (fun _ _ => rfl)]
  dsimp only [dats]

theorem coord_val (t : Fin cfg0.N) : (grid0.coords t 0).val = t.val := by
  have ht : t.val < 3 := Nat.lt_of_lt_of_eq t.isLt N_0
  have e0 : (grid0.coords t 0).val = t.val / 1 % 3 := Pipeline.Grid.coords_val t 0 (by decide) rfl
  omega

/-- At every point the step over what the buffer held before is what it holds after. -/
theorem outs_eq (c : Dev nD) (t : Fin cfg0.N) (d) :
    step (grid0.coords t) (iblk m c 0 t) (iblk m c 1 t) (iblk m c 2 t) (iblk m c 3 t) (iblk m c 4 t) ((dats m 0 c).before 5 t d) = outs m c t.val t.isLt := by
  obtain ⟨n, hn⟩ := t
  cases n with
  | zero =>
    unfold outs
    exact step_first _ (coord_val ⟨0, hn⟩) _ _ _ _ _ _ _
  | succ n =>
    rw [before5 m c ⟨n + 1, hn⟩ (Nat.succ_ne_zero n) d]
    conv_rhs => unfold outs
    rfl

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  rw [← outs_eq m c t d5]
  iapply ((kernelRun c (grid0.coords t) _ _ _ _ _ _ _ _ _ _ _ _ (iblk m c 0 t) (iblk m c 1 t) (iblk m c 2 t) (iblk m c 3 t) (iblk m c 4 t) ((dats m 0 c).before 5 t d5)).2 Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro
  exact (View.read_writes_eq_canon _ _ _ (cover c _ _ _ _ _ _ _ _ _ _ _ _ _ _ _ _ _ _ _)).trans (canon_eq c _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run of the program: the pipeline's arrays at what the proof data says, the rest after the trailing host operations, every counter zero. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- The frame claim of the kernel program. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.KernelIdeal.Router

end
-- ==== Proof.Spec.lean ====
module

public import Idealize.ShloMosaic.Lib.Pointwise
public import Idealize.ShloMosaic.PureOps.Ideal

@[expose] public section

noncomputable section

namespace Cert.Router

open Idealize.ShloMosaic

/-! The router in plain mathematics: product-key scores of a query, the score pair the two indices select, and the
softmax over the sixteen slots of a head. Arrays are functions of their coordinates. -/

/-- The key column an index word names. -/
def col (v : BitVec 32) : Fin 192 := ⟨v.toNat % 192, Nat.mod_lt _ (by decide)⟩

variable (x : (⟨3, ![3, 256, 7168]⟩ : Shape).Idx → EReal) (w : (⟨3, ![7168, 6, 320]⟩ : Shape).Idx → EReal)
  (k : (⟨4, ![6, 2, 192, 160]⟩ : Shape).Idx → EReal) (i1 i2 : (⟨4, ![3, 256, 6, 16]⟩ : Shape).Idx → BitVec 32)

/-- The query of a token, coordinate `e` of half `p` of head `h`. -/
def query (b : Fin 3) (t : Fin 256) (h : Fin 6) (p : Fin 2) (e : Fin 160) : EReal :=
  ∑ d : Fin 7168, x (ix3 b t d) * w (ix3 d h (⟨160 * p.val + e.val, by omega⟩ : Fin 320))

/-- The score of key `n` in half `p` of head `h`. -/
def score (b : Fin 3) (t : Fin 256) (h : Fin 6) (p : Fin 2) (n : Fin 192) : EReal :=
  ∑ e : Fin 160, query x w b t h p e * k (ix4 h p n e)

/-- The logit of slot `s`: the two selected scores added. -/
def slotLogit (b : Fin 3) (t : Fin 256) (h : Fin 6) (s : Fin 16) : EReal :=
  score x w k b t h 0 (col (i1 (ix4 b t h s))) + score x w k b t h 1 (col (i2 (ix4 b t h s)))

/-- The softmax of sixteen logits, the largest subtracted first. -/
def softmax (r : Fin 16 → EReal) (s : Fin 16) : EReal :=
  Ideal.div (Ideal.exp (r s - ⨆ s' : Fin 16, r s')) (∑ s' : Fin 16, Ideal.exp (r s' - ⨆ s'' : Fin 16, r s''))

/-- The gates. -/
def gates (b : Fin 3) (t : Fin 256) (h : Fin 6) (s : Fin 16) : EReal := softmax (slotLogit x w k i1 i2 b t h) s

end Cert.Router

end
-- ==== Proof.Entry.lean ====
module

public import proofs.«01_k».proof.Proof.Run
public import Idealize.ShloMosaic.Lib.Pointwise
public import Idealize.ShloMosaic.Lib.KernelVsHost
public import Idealize.ShloMosaic.Lib.ValueIdx
public import Idealize.ShloMosaic.Lib.StableHlo.RunRead

@[expose] public section

set_option maxRecDepth 16384

noncomputable section

namespace Cert.KernelIdeal.Router

open Cert.KernelIdeal.Gen
open Idealize.ShloMosaic Idealize.ShloMosaic.TcCoe

/-! What the host operations before the call leave in the arrays the call reads, as functions of the arguments, and
those functions read at an index. -/

/-- The tokens, flattened. -/
def xEntry (x : FVec Ideal S3x256x7168 .bf16) : FVec Ideal S768x7168 .bf16 := shapeCast S768x7168 x shapeCasts_S3x256x7168_S768x7168

/-- The query weights with the output axis in front. -/
def wEntry (w : FVec Ideal S7168x6x320 .bf16) : FVec Ideal S1920x7168 .bf16 :=
  shapeCast S1920x7168 (transpose S6x320x7168 [1, 2, 0] w transposes_S7168x6x320_S6x320x7168_1_2_0) shapeCasts_S6x320x7168_S1920x7168

/-- The keys transposed and padded to 256 columns. -/
def keyPad (k : FVec Ideal S6x2x192x160 .bf16) : FVec Ideal S6x2x160x256 .bf16 :=
  pad S6x2x160x256 ![0, 0, 0, 0] ![0, 0, 0, 64] ![0, 0, 0, 0] (transpose S6x2x160x192 [0, 1, 3, 2] k transposes_S6x2x192x160_S6x2x160x192_0_1_3_2)
    (sitofp (F := Ideal) .bf16 (constantI S_ 32 0#32)) pads_S6x2x160x192_S6x2x160x256_000_000_000_0640 h_S_

/-- The 4 × 4 identity matrix. -/
def eye : FVec Ideal S4x4 .bf16 :=
  uitofp .bf16 (cmpi .eq (addi (iotaInDim S4x4 32 0) (broadcastInDim S4x4 ![] bcast_S_S4x4 (constantI S_ 32 0#32))) (iotaInDim S4x4 32 1))

/-- The keys of two heads as one block-diagonal matrix. -/
def skEntry (k : FVec Ideal S6x2x192x160 .bf16) : FVec Ideal S3x640x1024 .bf16 :=
  shapeCast S3x640x1024 (mulf
    (broadcastInDim S3x4x160x4x256 ![0, 1, 2, 3, 4] bcast_S1x4x1x4x1_S3x4x160x4x256_0_1_2_3_4 (broadcastInDim S1x4x1x4x1 ![1, 3] bcast_S4x4_S1x4x1x4x1_1_3 eye))
    (broadcastInDim S3x4x160x4x256 ![0, 1, 2, 3, 4] bcast_S3x4x160x1x256_S3x4x160x4x256_0_1_2_3_4
      (broadcastInDim S3x4x160x1x256 ![0, 1, 2, 4] bcast_S3x4x160x256_S3x4x160x1x256_0_1_2_4
        (shapeCast S3x4x160x256 (keyPad k) shapeCasts_S6x2x160x256_S3x4x160x256)))) shapeCasts_S3x4x160x4x256_S3x640x1024

/-- The key indices, one lane per head and slot, the lanes from 96 on zero. -/
def iEntry (i : IVec S3x256x6x16 32) : IVec S768x128 32 :=
  pad S768x128 ![0, 0] ![0, 32] ![0, 0] (shapeCast S768x96 i shapeCasts_S3x256x6x16_S768x96) (constantI S_ 32 0#32) pads_S768x96_S768x128_000_0320 h_S_

variable (m : (ℓ : Loc nD τ sig) → Buf (Elt Ideal) ℓ)

theorem V_x (c : Dev nD) : V m c main_v0 = xEntry (m ((c.tc : Thread nD τ).loc main_arg0)) := by
  show StableHlo.after (List.flatten [hostOps0, hostOps0_1, hostOps0_2, hostOps0_3, hostOps0_4, hostOps0_5]) (fun b => m (c, b)) (Proc.devRef .tc main_v0) = _
  simp only [hostOps0, hostOps0_1, hostOps0_2, hostOps0_3, hostOps0_4, hostOps0_5, List.flatten_cons, List.flatten_nil, List.append_nil, List.cons_append, List.nil_append]
  after_reads_simp
  rfl

theorem V_w (c : Dev nD) : V m c main_v19 = wEntry (m ((c.tc : Thread nD τ).loc main_arg1)) := by
  show StableHlo.after (List.flatten [hostOps0, hostOps0_1, hostOps0_2, hostOps0_3, hostOps0_4, hostOps0_5]) (fun b => m (c, b)) (Proc.devRef .tc main_v19) = _
  simp only [hostOps0, hostOps0_1, hostOps0_2, hostOps0_3, hostOps0_4, hostOps0_5, List.flatten_cons, List.flatten_nil, List.append_nil, List.cons_append, List.nil_append]
  after_reads_simp
  rfl

theorem V_sk (c : Dev nD) : V m c main_v17 = skEntry (m ((c.tc : Thread nD τ).loc main_arg2)) := by
  show StableHlo.after (List.flatten [hostOps0, hostOps0_1, hostOps0_2, hostOps0_3, hostOps0_4, hostOps0_5]) (fun b => m (c, b)) (Proc.devRef .tc main_v17) = _
  simp only [hostOps0, hostOps0_1, hostOps0_2, hostOps0_3, hostOps0_4, hostOps0_5, List.flatten_cons, List.flatten_nil, List.append_nil, List.cons_append, List.nil_append]
  after_reads_simp
  rfl

theorem V_i1 (c : Dev nD) : V m c main_v20 = iEntry (m ((c.tc : Thread nD τ).loc main_arg3)) := by
  show StableHlo.after (List.flatten [hostOps0, hostOps0_1, hostOps0_2, hostOps0_3, hostOps0_4, hostOps0_5]) (fun b => m (c, b)) (Proc.devRef .tc main_v20) = _
  simp only [hostOps0, hostOps0_1, hostOps0_2, hostOps0_3, hostOps0_4, hostOps0_5, List.flatten_cons, List.flatten_nil, List.append_nil, List.cons_append, List.nil_append]
  after_reads_simp
  rfl

theorem V_i2 (c : Dev nD) : V m c main_v21 = iEntry (m ((c.tc : Thread nD τ).loc main_arg4)) := by
  show StableHlo.after (List.flatten [hostOps0, hostOps0_1, hostOps0_2, hostOps0_3, hostOps0_4, hostOps0_5]) (fun b => m (c, b)) (Proc.devRef .tc main_v21) = _
  simp only [hostOps0, hostOps0_1, hostOps0_2, hostOps0_3, hostOps0_4, hostOps0_5, List.flatten_cons, List.flatten_nil, List.append_nil, List.cons_append, List.nil_append]
  after_reads_simp
  rfl

/-! Read at an index. -/

/-- Token `t` of 768 is token `t % 256` of batch `t / 256`. -/
def batch (t : Fin 768) : Fin 3 := ⟨t.val / 256, by omega⟩
def place (t : Fin 768) : Fin 256 := ⟨t.val % 256, by omega⟩

theorem xEntry_apply (x : FVec Ideal S3x256x7168 .bf16) (t : Fin 768) (d : Fin 7168) :
    xEntry x (ix2 t d) = x (ix3 (batch t) (place t) d) := by
  unfold xEntry
  refine shapeCast_apply _ _ _ _ ?_
  rw [Shape.rowMajor_val_three, Shape.rowMajor_val_two]
  show ((t.val / 256) * 256 + t.val % 256) * 7168 + d.val = t.val * 7168 + d.val
  omega

theorem wEntry_apply (w : FVec Ideal S7168x6x320 .bf16) (h : Fin 6) (k : Fin 320) (d : Fin 7168) (r : Fin 1920) (hr : r.val = 320 * h.val + k.val) :
    wEntry w (ix2 r d) = w (ix3 d h k) := by
  unfold wEntry
  refine (shapeCast_apply _ _ _ (ix3 h k d) ?_).trans ?_
  · rw [Shape.rowMajor_val_three, Shape.rowMajor_val_two]
    show (h.val * 320 + k.val) * 7168 + d.val = r.val * 7168 + d.val
    rw [hr]; omega
  · refine transpose_apply _ _ _ _ _ fun b => ?_
    match b with
    | ⟨0, _⟩ => rfl
    | ⟨1, _⟩ => rfl
    | ⟨2, _⟩ => rfl

theorem keyPad_apply (k : FVec Ideal S6x2x192x160 .bf16) (h : Fin 6) (p : Fin 2) (e : Fin 160) (n : Fin 256) (n' : Fin 192) (hn : n.val = n'.val) :
    keyPad k (ix4 h p e n) = k (ix4 h p n' e) := by
  unfold keyPad
  refine (pad_apply_of_inside _ _ _ _ _ _ _ _ (ix4 h p e n') fun a => ?_).trans ?_
  · match a with
    | ⟨0, _⟩ => exact (by show h.val = 0 + h.val * (0 + 1); omega)
    | ⟨1, _⟩ => exact (by show p.val = 0 + p.val * (0 + 1); omega)
    | ⟨2, _⟩ => exact (by show e.val = 0 + e.val * (0 + 1); omega)
    | ⟨3, _⟩ => exact (by show n.val = 0 + n'.val * (0 + 1); omega)
  · refine transpose_apply _ _ _ _ _ fun b => ?_
    match b with
    | ⟨0, _⟩ => rfl
    | ⟨1, _⟩ => rfl
    | ⟨2, _⟩ => rfl
    | ⟨3, _⟩ => rfl

theorem eye_fact : ∀ a b : Fin 4, IntOp.cmpi .eq (IntOp.addi (BitVec.ofNat 32 a.val) 0#32) (BitVec.ofNat 32 b.val) = if a = b then 1#1 else 0#1 := by
  decide +kernel

theorem eye_apply (a b : Fin 4) : eye (ix2 a b) = if a = b then 1 else 0 := by
  have h : eye (ix2 a b) = FloatOps.uitofp (F := Ideal) .bf16 (IntOp.cmpi .eq (IntOp.addi (BitVec.ofNat 32 a.val) 0#32) (BitVec.ofNat 32 b.val)) := rfl
  rw [h, eye_fact]
  split
  · show ((((1#1 : BitVec 1).toNat : ℝ)) : EReal) = 1
    simp
  · show ((((0#1 : BitVec 1).toNat : ℝ)) : EReal) = 0
    simp

/-- The block-diagonal keys at row `160 a + e` and column `256 b + n`: the key entry on the diagonal, zero beside it. -/
theorem skEntry_apply (k : FVec Ideal S6x2x192x160 .bf16) (s : Fin 3) (a b : Fin 4) (e : Fin 160) (n : Fin 256) (r : Fin 640) (q : Fin 1024)
    (hr : r.val = 160 * a.val + e.val) (hq : q.val = 256 * b.val + n.val) :
    skEntry k (ix3 s r q) = (if a = b then 1 else 0) * keyPad k (ix4 ⟨2 * s.val + a.val / 2, by omega⟩ ⟨a.val % 2, by omega⟩ e n) := by
  unfold skEntry
  refine (shapeCast_apply _ _ _ (ix5 s a e b n) ?_).trans ?_
  · rw [Shape.rowMajor_val_five, Shape.rowMajor_val_three]
    show (((s.val * 4 + a.val) * 160 + e.val) * 4 + b.val) * 256 + n.val = (s.val * 640 + r.val) * 1024 + q.val
    rw [hr, hq]; omega
  · refine congrArg₂ (fun x y : EReal => x * y) ?_ ?_
    · refine (broadcastInDim_apply _ _ _ _ (ix5 0 a 0 b 0) fun x => ?_).trans ?_
      · match x with
        | ⟨0, _⟩ => rfl
        | ⟨1, _⟩ => rfl
        | ⟨2, _⟩ => rfl
        | ⟨3, _⟩ => rfl
        | ⟨4, _⟩ => rfl
      · refine (broadcastInDim_apply _ _ _ _ (ix2 a b) fun x => ?_).trans (eye_apply a b)
        match x with
        | ⟨0, _⟩ => rfl
        | ⟨1, _⟩ => rfl
    · refine (broadcastInDim_apply _ _ _ _ (ix5 s a e 0 n) fun x => ?_).trans ?_
      · match x with
        | ⟨0, _⟩ => rfl
        | ⟨1, _⟩ => rfl
        | ⟨2, _⟩ => rfl
        | ⟨3, _⟩ => rfl
        | ⟨4, _⟩ => rfl
      · refine (broadcastInDim_apply _ _ _ _ (ix4 s a e n) fun x => ?_).trans ?_
        · match x with
          | ⟨0, _⟩ => rfl
          | ⟨1, _⟩ => rfl
          | ⟨2, _⟩ => rfl
          | ⟨3, _⟩ => rfl
        · refine shapeCast_apply _ _ _ _ ?_
          rw [Shape.rowMajor_val_four, Shape.rowMajor_val_four]
          show (((2 * s.val + a.val / 2) * 2 + a.val % 2) * 160 + e.val) * 256 + n.val = ((s.val * 4 + a.val) * 160 + e.val) * 256 + n.val
          have := a.isLt
          omega

theorem iEntry_apply (i : IVec S3x256x6x16 32) (t : Fin 768) (h : Fin 6) (s : Fin 16) (l : Fin 128) (hl : l.val = 16 * h.val + s.val) :
    iEntry i (ix2 t l) = i (ix4 (batch t) (place t) h s) := by
  unfold iEntry
  refine (pad_apply_of_inside _ _ _ _ _ _ _ _ (ix2 t (⟨16 * h.val + s.val, by omega⟩ : Fin 96)) fun a => ?_).trans ?_
  · match a with
    | ⟨0, _⟩ => exact (by show t.val = 0 + t.val * (0 + 1); omega)
    | ⟨1, _⟩ => exact (by show l.val = 0 + (16 * h.val + s.val) * (0 + 1); omega)
  · refine shapeCast_apply _ _ _ _ ?_
    rw [Shape.rowMajor_val_four, Shape.rowMajor_val_two]
    show (((t.val / 256) * 256 + t.val % 256) * 6 + h.val) * 16 + s.val = t.val * 96 + (16 * h.val + s.val)
    omega

end Cert.KernelIdeal.Router

end
-- ==== Proof.Scores.lean ====
module

public import proofs.«01_k».proof.Proof.Spec
public import proofs.«01_k».proof.Proof.Entry

@[expose] public section

set_option maxRecDepth 16384

noncomputable section

namespace Cert.KernelIdeal.Router

open Cert.KernelIdeal.Gen
open Idealize.ShloMosaic Idealize.ShloMosaic.TcCoe

/-! The scores of one grid point: the two matrix products over the blocks, the second against a block-diagonal matrix of
which only the diagonal block contributes. -/

theorem pay1_apply (x0 : Vec Ideal S768x7168 .bf16) (x1 : Vec Ideal S640x7168 .bf16) (x2 : Vec Ideal S1x640x1024 .bf16) (t : Fin 768) (q : Fin 1024) :
    k0_pay1 x0 x1 x2 (ix2 t q) = ∑ r : Fin 640, (∑ d : Fin 7168, x0 (ix2 t d) * x1 (ix2 r d)) * x2 (ix3 0 r q) := by
  pointwise [k0_pay1]

/-- A sum over 640 rows, as four blocks of 160. -/
theorem sum_blocks (f : Fin 640 → EReal) :
    ∑ r : Fin 640, f r = ∑ a : Fin 4, ∑ e : Fin 160, f ⟨160 * a.val + e.val, by omega⟩ := by
  rw [← Fintype.sum_prod_type']
  refine (Equiv.sum_comp (finProdFinEquiv (m := 4) (n := 160)) f).symm.trans ?_
  refine Finset.sum_congr rfl fun p _ => congrArg f (Fin.ext ?_)
  show p.2.val + 160 * p.1.val = 160 * p.1.val + p.2.val
  omega

/-- The scores of a grid point, in the columns that hold keys. -/
theorem scores_apply (s : Fin 3) (x : FVec Ideal S3x256x7168 .bf16) (w : FVec Ideal S7168x6x320 .bf16) (k : FVec Ideal S6x2x192x160 .bf16)
    (x0 : Vec Ideal S768x7168 .bf16) (x1 : Vec Ideal S640x7168 .bf16) (x2 : Vec Ideal S1x640x1024 .bf16)
    (h0 : ∀ t d, x0 (ix2 t d) = xEntry x (ix2 t d))
    (h1 : ∀ (r : Fin 640) (d : Fin 7168), x1 (ix2 r d) = wEntry w (ix2 (⟨640 * s.val + r.val, by omega⟩ : Fin 1920) d))
    (h2 : ∀ (r : Fin 640) (q : Fin 1024), x2 (ix3 0 r q) = skEntry k (ix3 s r q))
    (t : Fin 768) (h : Fin 6) (p : Fin 2) (n : Fin 192) (q : Fin 1024) (hh : h.val / 2 = s.val)
    (hq : q.val = 512 * (h.val % 2) + 256 * p.val + n.val) :
    k0_pay1 x0 x1 x2 (ix2 t q) = Cert.Router.score x w k (batch t) (place t) h p n := by
  rw [pay1_apply, sum_blocks]
  have hb : 2 * (h.val % 2) + p.val < 4 := by have := p.isLt; omega
  let b : Fin 4 := ⟨2 * (h.val % 2) + p.val, hb⟩
  rw [Finset.sum_eq_single b]
  · unfold Cert.Router.score
    refine Finset.sum_congr rfl fun e _ => ?_
    refine congrArg₂ (fun x y : EReal => x * y) ?_ ?_
    · unfold Cert.Router.query
      refine Finset.sum_congr rfl fun d _ => ?_
      rw [h0, h1, xEntry_apply, wEntry_apply w h ⟨160 * p.val + e.val, by omega⟩ d _ (by
        show 640 * s.val + (160 * (2 * (h.val % 2) + p.val) + e.val) = 320 * h.val + (160 * p.val + e.val)
        omega)]
    · rw [h2, skEntry_apply k s b b e ⟨n.val, by omega⟩ _ _ rfl (by
        show q.val = 256 * (2 * (h.val % 2) + p.val) + n.val; omega), if_pos rfl, one_mul,
        keyPad_apply k _ _ e ⟨n.val, by omega⟩ n rfl]
      have e1 : (⟨2 * s.val + b.val / 2, by omega⟩ : Fin 6) = h := Fin.ext (by
        show 2 * s.val + (2 * (h.val % 2) + p.val) / 2 = h.val; have := p.isLt; omega)
      have e2 : (⟨b.val % 2, by omega⟩ : Fin 2) = p := Fin.ext (by
        show (2 * (h.val % 2) + p.val) % 2 = p.val; have := p.isLt; omega)
      rw [e1, e2]
  · intro a _ ha
    refine Finset.sum_eq_zero fun e _ => ?_
    rw [h2, skEntry_apply k s a b e ⟨n.val, by omega⟩ _ _ rfl (by
        show q.val = 256 * (2 * (h.val % 2) + p.val) + n.val; omega), if_neg ha, zero_mul, mul_zero]
  · exact fun hn => absurd (Finset.mem_univ _) hn

end Cert.KernelIdeal.Router

end
-- ==== Proof.Lanes.lean ====
module

public import proofs.«01_k».proof.Proof.Body
public import Idealize.ShloMosaic.Lib.Pointwise
public import Idealize.ShloMosaic.Lib.ValueIdx

@[expose] public section

set_option maxRecDepth 16384

noncomputable section

namespace Cert.KernelIdeal.Router

open Cert.KernelIdeal.Gen
open Idealize.ShloMosaic

/-! The lane arithmetic of the softmax: sixteen neighbouring lanes are one head, and four exchanges with the lane
whose number differs in one bit combine all sixteen. -/

/-- Lane `l` with the bits of `d` flipped. -/
def flip (d : Fin 16) (l : Fin 128) : Fin 128 := ⟨l.val ^^^ d.val, Nat.xor_lt_two_pow (n := 7) l.isLt (by omega)⟩

theorem lanes_apply (t : Fin 768) (l : Fin 128) : lanes (ix2 t l) = BitVec.ofNat 32 l.val := by
  unfold lanes iota
  simp

theorem rotate_apply {α : Type} (n : BitVec 32) (r : S768x128.Idx → α) (h : S768x128.Rotates 1 none) (t : Fin 768) (l : Fin 128) :
    dynamicRotate 1 n none r h (ix2 t l) = r (ix2 t ⟨(l.val + 128 - n.toNat % 128) % 128, Nat.mod_lt _ (by decide)⟩) := by
  unfold dynamicRotate
  refine congrArg r (funext fun b => ?_)
  match b with
  | ⟨0, _⟩ => rfl
  | ⟨1, _⟩ => rfl

theorem lane_facts : ∀ l : Fin 128, ∀ d : Fin 4,
    Scalar.select (IntOp.cmpi .eq (IntOp.andi (BitVec.ofNat 32 l.val) (BitVec.ofNat 32 (2 ^ d.val))) 0#32)
      ((l.val + 128 - (BitVec.ofNat 32 (128 - 2 ^ d.val)).toNat % 128) % 128)
      ((l.val + 128 - (BitVec.ofNat 32 (2 ^ d.val)).toNat % 128) % 128) = l.val ^^^ 2 ^ d.val := by
  decide +kernel

/-- Selecting between the two rotations by the lane's bit `d` reads the lane with that bit flipped. -/
theorem partner_apply {α : Type} (d : Fin 4) (r : S768x128.Idx → α) (h h' : S768x128.Rotates 1 none) (t : Fin 768) (l : Fin 128) :
    select (cmpi .eq (andi lanes (broadcast S768x128 (BitVec.ofNat 32 (2 ^ d.val)))) (broadcast S768x128 0#32))
      (dynamicRotate 1 (BitVec.ofNat 32 (128 - 2 ^ d.val)) none r h) (dynamicRotate 1 (BitVec.ofNat 32 (2 ^ d.val)) none r h') (ix2 t l)
      = r (ix2 t (flip ⟨2 ^ d.val, by have := d.isLt; interval_cases d.val <;> decide⟩ l)) := by
  rw [ValueIdx.select_apply, rotate_apply, rotate_apply]
  show Scalar.select (IntOp.cmpi .eq (IntOp.andi (lanes (ix2 t l)) (BitVec.ofNat 32 (2 ^ d.val))) 0#32) _ _ = _
  rw [lanes_apply]
  have hf := lane_facts l d
  generalize IntOp.cmpi .eq (IntOp.andi (BitVec.ofNat 32 l.val) (BitVec.ofNat 32 (2 ^ d.val))) 0#32 = b at hf ⊢
  unfold Scalar.select at hf ⊢
  split at hf <;> rename_i hb
  · rw [if_pos hb]; exact congrArg (fun x => r (ix2 t x)) (Fin.ext hf)
  · rw [if_neg hb]; exact congrArg (fun x => r (ix2 t x)) (Fin.ext hf)

/-- One combining step over the lane with bit `d` flipped. -/
def comb (op : Ideal .f32 → Ideal .f32 → Ideal .f32) (d : Fin 16) (f : Fin 128 → Ideal .f32) : Fin 128 → Ideal .f32 :=
  fun l => op (f l) (f (flip d l))

/-- The four combining steps. -/
def comb16 (op : Ideal .f32 → Ideal .f32 → Ideal .f32) (f : Fin 128 → Ideal .f32) : Fin 128 → Ideal .f32 :=
  comb op 8 (comb op 4 (comb op 2 (comb op 1 f)))

theorem flip_flip : ∀ (d e : Fin 16) (l : Fin 128), flip d (flip e l) = flip (⟨d.val ^^^ e.val, Nat.xor_lt_two_pow (n := 4) d.isLt e.isLt⟩) l := by
  intro d e l
  apply Fin.ext
  show (l.val ^^^ e.val) ^^^ d.val = l.val ^^^ (d.val ^^^ e.val)
  rw [Nat.xor_assoc, Nat.xor_comm e.val]

theorem flip_zero (l : Fin 128) : flip 0 l = l := Fin.ext (Nat.xor_zero _)

/-- The lanes of one head, in order. -/
def headLane (l : Fin 128) (s : Fin 16) : Fin 128 := ⟨16 * (l.val / 16) + s.val, by have := l.isLt; omega⟩

/-- Flipping runs over the lanes of the head. -/
def flipSlot (l : Fin 128) : Fin 16 ≃ Fin 16 where
  toFun e := ⟨(l.val % 16) ^^^ e.val, Nat.xor_lt_two_pow (n := 4) (by omega) e.isLt⟩
  invFun e := ⟨(l.val % 16) ^^^ e.val, Nat.xor_lt_two_pow (n := 4) (by omega) e.isLt⟩
  left_inv e := Fin.ext (by show (l.val % 16) ^^^ ((l.val % 16) ^^^ e.val) = e.val; rw [← Nat.xor_assoc, Nat.xor_self, Nat.zero_xor])
  right_inv e := Fin.ext (by show (l.val % 16) ^^^ ((l.val % 16) ^^^ e.val) = e.val; rw [← Nat.xor_assoc, Nat.xor_self, Nat.zero_xor])

theorem flip_eq_headLane : ∀ (l : Fin 128) (e : Fin 16), flip e l = headLane l (flipSlot l e) := by
  decide +kernel

/-- The four steps written out over the sixteen flips of the lane. -/
theorem comb16_eq (op : Ideal .f32 → Ideal .f32 → Ideal .f32) (f : Fin 128 → Ideal .f32) (l : Fin 128) (g : Fin 16 → Ideal .f32)
    (hg : ∀ e, g e = f (flip e l)) :
    comb16 op f l = op (op (op (op (g 0) (g 1)) (op (g 2) (g 3))) (op (op (g 4) (g 5)) (op (g 6) (g 7))))
      (op (op (op (g 8) (g 9)) (op (g 10) (g 11))) (op (op (g 12) (g 13)) (op (g 14) (g 15)))) := by
  obtain rfl : g = fun e => f (flip e l) := funext hg
  unfold comb16 comb
  conv_lhs => rw [← flip_zero l]
  simp only [flip_flip]
  rfl

/-- The sum over the sixteen lanes of the head. -/
theorem comb16_add (f : Fin 128 → EReal) (l : Fin 128) :
    comb16 (fun a b : EReal => a + b) f l = ∑ s : Fin 16, f (headLane l s) := by
  have h1 : ∑ s : Fin 16, f (headLane l s) = ∑ e : Fin 16, f (flip e l) := by
    simp only [flip_eq_headLane]
    exact (Equiv.sum_comp (flipSlot l) (fun s => f (headLane l s))).symm
  rw [h1]
  let g : Fin 16 → EReal := fun e => f (flip e l)
  refine (comb16_eq _ f l g (fun _ => rfl)).trans ?_
  show _ = ∑ e : Fin 16, g e
  generalize g = g
  simp only [Fin.sum_univ_succ, Fin.sum_univ_zero, add_zero]
  simp only [add_assoc]
  rfl

/-- The largest of the sixteen lanes of the head. -/
theorem comb16_max (f : Fin 128 → EReal) (l : Fin 128) :
    comb16 (fun a b : EReal => max a b) f l = ⨆ s : Fin 16, f (headLane l s) := by
  have h1 : ⨆ s : Fin 16, f (headLane l s) = ⨆ e : Fin 16, f (flip e l) := by
    simp only [flip_eq_headLane]
    exact (Equiv.iSup_comp (flipSlot l) (g := fun s => f (headLane l s))).symm
  rw [h1]
  let g : Fin 16 → EReal := fun e => f (flip e l)
  refine (comb16_eq _ f l g (fun _ => rfl)).trans ?_
  show _ = ⨆ e : Fin 16, g e
  generalize g = g
  rw [← Finset.sup_univ_eq_iSup]
  apply le_antisymm
  · simp only [max_le_iff]
    refine ⟨⟨⟨⟨?_, ?_⟩, ⟨?_, ?_⟩⟩, ⟨⟨?_, ?_⟩, ⟨?_, ?_⟩⟩⟩, ⟨⟨⟨?_, ?_⟩, ⟨?_, ?_⟩⟩, ⟨⟨?_, ?_⟩, ⟨?_, ?_⟩⟩⟩⟩ <;>
      exact Finset.le_sup (f := g) (Finset.mem_univ _)
  · refine Finset.sup_le fun e _ => ?_
    fin_cases e <;> simp only [le_max_iff] <;> simp

end Cert.KernelIdeal.Router

end
-- ==== Proof.Stored.lean ====
module

public import proofs.«01_k».proof.Proof.Lanes

@[expose] public section

set_option maxRecDepth 16384

noncomputable section

namespace Cert.KernelIdeal.Router

open Cert.KernelIdeal.Gen
open Idealize.ShloMosaic

/-! The block one grid point stores, read at a token and a lane: the softmax over the sixteen lanes of the head in the
lanes of that grid point, the buffer's contents before in the others. -/

/-- Every lane beside its partner across bit `d`. -/
def partner (d : Fin 4) (r : FVec Ideal S768x128 .f32) : FVec Ideal S768x128 .f32 :=
  select (cmpi .eq (andi lanes (broadcast S768x128 (BitVec.ofNat 32 (2 ^ d.val)))) (broadcast S768x128 0#32))
    (dynamicRotate 1 (BitVec.ofNat 32 (128 - 2 ^ d.val)) none r rotates_S768x128_d1) (dynamicRotate 1 (BitVec.ofNat 32 (2 ^ d.val)) none r rotates_S768x128_d1)

/-- The row of token `t`. -/
def row (r : FVec Ideal S768x128 .f32) (t : Fin 768) : Fin 128 → Ideal .f32 := fun l => r (ix2 t l)

def maxStep (d : Fin 4) (r : FVec Ideal S768x128 .f32) : FVec Ideal S768x128 .f32 := maximumf r (partner d r)
def addStep (d : Fin 4) (r : FVec Ideal S768x128 .f32) : FVec Ideal S768x128 .f32 := addf r (partner d r)

theorem row_maxStep (d : Fin 4) (r : FVec Ideal S768x128 .f32) (t : Fin 768) :
    row (maxStep d r) t = comb (fun a b : EReal => max a b) ⟨2 ^ d.val, by have := d.isLt; interval_cases d.val <;> decide⟩ (row r t) := by
  funext l
  show max (r (ix2 t l)) (partner d r (ix2 t l)) = _
  unfold partner
  rw [partner_apply]
  rfl

theorem row_addStep (d : Fin 4) (r : FVec Ideal S768x128 .f32) (t : Fin 768) :
    row (addStep d r) t = comb (fun a b : EReal => a + b) ⟨2 ^ d.val, by have := d.isLt; interval_cases d.val <;> decide⟩ (row r t) := by
  funext l
  show r (ix2 t l) + partner d r (ix2 t l) = _
  unfold partner
  rw [partner_apply]
  rfl

/-- The exponentials of the logits less the head's largest. -/
def exps (v9 : FVec Ideal S768x1024 .f32) (v11 v13 : IVec S768x128 32) : FVec Ideal S768x128 .f32 :=
  exp (subf (logit v9 v11 v13) (maxStep 3 (maxStep 2 (maxStep 1 (maxStep 0 (logit v9 v11 v13))))))

theorem pay15_eq (v9 : FVec Ideal S768x1024 .f32) (v11 v13 : IVec S768x128 32) :
    k0_pay15 lanes (logit v9 v11 v13) (max4 v9 v11 v13) 4#32 = exps v9 v11 v13 := rfl

theorem pay16_eq (v9 : FVec Ideal S768x1024 .f32) (v11 v13 : IVec S768x128 32) :
    k0_pay16 lanes (logit v9 v11 v13) (max4 v9 v11 v13) 4#32 = addStep 1 (addStep 0 (exps v9 v11 v13)) := rfl

theorem pay17_eq (v9 : FVec Ideal S768x1024 .f32) (v11 v13 : IVec S768x128 32) :
    k0_pay17 lanes (logit v9 v11 v13) (max4 v9 v11 v13) 4#32 = partner 2 (addStep 1 (addStep 0 (exps v9 v11 v13))) := rfl

/-- The softmax gate of lane `l` over the logits of one token. -/
def gate (r : Fin 128 → EReal) (l : Fin 128) : EReal :=
  Ideal.div (Ideal.exp (r l - ⨆ s : Fin 16, r (headLane l s)))
    (∑ s : Fin 16, Ideal.exp (r (headLane l s) - ⨆ s' : Fin 16, r (headLane l s')))

theorem headLane_headLane (l : Fin 128) (s s' : Fin 16) : headLane (headLane l s) s' = headLane l s' := by
  apply Fin.ext
  show 16 * ((16 * (l.val / 16) + s.val) / 16) + s'.val = 16 * (l.val / 16) + s'.val
  have := s.isLt
  omega

theorem exps_apply (v9 : FVec Ideal S768x1024 .f32) (v11 v13 : IVec S768x128 32) (t : Fin 768) (l : Fin 128) :
    exps v9 v11 v13 (ix2 t l) = Ideal.exp (row (logit v9 v11 v13) t l - ⨆ s : Fin 16, row (logit v9 v11 v13) t (headLane l s)) := by
  rw [← comb16_max]
  show Ideal.exp (row (logit v9 v11 v13) t l - row (maxStep 3 (maxStep 2 (maxStep 1 (maxStep 0 (logit v9 v11 v13))))) t l) = _
  rw [row_maxStep, row_maxStep, row_maxStep, row_maxStep]
  rfl

/-- The lane's grid point, as the kernel's rounded-down division finds it. -/
def point32 : IVec S768x128 32 :=
  have v226 : IVec S768x128 32 := broadcast S768x128 32#32
  have v227 : IVec S768x128 32 := divsi lanes v226
  have v228 : IVec S768x128 32 := broadcast S768x128 0#32
  have v230 : IVec S768x128 32 := extui 32 (cmpi .sgt lanes v228) natLt_1_32
  have v233 : IVec S768x128 32 := extui 32 (cmpi .slt lanes v228) natLt_1_32
  have v234 : IVec S768x128 32 := subi v230 v233
  have v239 : BitVec 32 := Scalar.subi (Scalar.extui (Scalar.cmpi .sgt 32#32 0#32)) (Scalar.extui (Scalar.cmpi .slt 32#32 0#32))
  have v241 : IVec S768x128 1 := cmpi .ne v234 (broadcast S768x128 v239)
  have v245 : IVec S768x128 1 := cmpi .ne (remsi lanes v226) v228
  select (andi v241 v245) (subi v227 (broadcast S768x128 1#32)) v227

theorem point32_fact : ∀ l : Fin 128,
    Scalar.select (IntOp.andi (IntOp.cmpi .ne (IntOp.subi (BitVec.setWidth 32 (IntOp.cmpi .sgt (BitVec.ofNat 32 l.val) 0#32)) (BitVec.setWidth 32 (IntOp.cmpi .slt (BitVec.ofNat 32 l.val) 0#32)))
        (IntOp.subi (BitVec.setWidth 32 (IntOp.cmpi .sgt 32#32 0#32)) (BitVec.setWidth 32 (IntOp.cmpi .slt 32#32 0#32))))
        (IntOp.cmpi .ne (IntOp.remsi .vector (BitVec.ofNat 32 l.val) 32#32) 0#32))
      (IntOp.subi (IntOp.divsi .vector (BitVec.ofNat 32 l.val) 32#32) 1#32) (IntOp.divsi .vector (BitVec.ofNat 32 l.val) 32#32) = BitVec.ofNat 32 (l.val / 32) := by
  decide +kernel

theorem point32_apply (t : Fin 768) (l : Fin 128) : point32 (ix2 t l) = BitVec.ofNat 32 (l.val / 32) := by
  refine Eq.trans ?_ (point32_fact l)
  rw [← lanes_apply t l]
  rfl

theorem pay18_eq (a : BitVec 32) (v9 : FVec Ideal S768x1024 .f32) (v11 v13 : IVec S768x128 32) (xo : Vec Ideal S768x128 .f32) :
    stored a v9 v11 v13 xo = select (cmpi .eq point32 (broadcast S768x128 a))
      (divf (exps v9 v11 v13) (addStep 3 (addStep 2 (addStep 1 (addStep 0 (exps v9 v11 v13))))))
      (Scalar.select (Scalar.cmpi .eq a 0#32) (broadcast S768x128 (Scalar.ofBits .f32 0x00000000#32))
        (shapeCast S768x128 xo shapeCasts_S768x128_S768x128)) := rfl

/-- The stored block at a token and a lane. -/
theorem stored_apply (n : ℕ) (hn : n < 3) (v9 : FVec Ideal S768x1024 .f32) (v11 v13 : IVec S768x128 32) (xo : Vec Ideal S768x128 .f32)
    (t : Fin 768) (l : Fin 128) :
    stored (BitVec.ofNat 32 n) v9 v11 v13 xo (ix2 t l) =
      if l.val / 32 = n then gate (row (logit v9 v11 v13) t) l else if n = 0 then 0 else xo (ix2 t l) := by
  rw [pay18_eq, ValueIdx.select_apply]
  have hpt : cmpi .eq point32 (broadcast S768x128 (BitVec.ofNat 32 n)) (ix2 t l) = IntOp.cmpi .eq (BitVec.ofNat 32 (l.val / 32)) (BitVec.ofNat 32 n) := by
    rw [← point32_apply t l]; rfl
  rw [hpt]
  by_cases h : l.val / 32 = n
  · rw [if_pos h, h]
    have h1 : IntOp.cmpi .eq (BitVec.ofNat 32 n) (BitVec.ofNat 32 n) = 1#1 := by simp [IntOp.cmpi]
    rw [h1, ValueIdx.select_one]
    show Ideal.div (exps v9 v11 v13 (ix2 t l)) (row (addStep 3 (addStep 2 (addStep 1 (addStep 0 (exps v9 v11 v13))))) t l) = _
    rw [row_addStep, row_addStep, row_addStep, row_addStep, exps_apply]
    unfold gate
    congr 1
    refine (comb16_add (row (exps v9 v11 v13) t) l).trans ?_
    refine Finset.sum_congr rfl fun s _ => ?_
    refine (exps_apply v9 v11 v13 t (headLane l s)).trans ?_
    simp only [headLane_headLane]
  · rw [if_neg h]
    have h1 : IntOp.cmpi .eq (BitVec.ofNat 32 (l.val / 32)) (BitVec.ofNat 32 n) = 0#1 := by
      have hl : l.val / 32 < 4 := by have := l.isLt; omega
      generalize l.val / 32 = q at *
      interval_cases n <;> interval_cases q <;> first | rfl | exact absurd rfl h
    rw [h1, ValueIdx.select_zero]
    by_cases h0 : n = 0
    · subst h0
      rw [if_pos rfl]
      exact Ideal.ofBits_zero_f32
    · rw [if_neg h0]
      have h2 : Scalar.cmpi .eq (BitVec.ofNat 32 n) 0#32 = 0#1 := by interval_cases n <;> first | rfl | exact absurd rfl h0
      rw [h2]
      show shapeCast S768x128 xo shapeCasts_S768x128_S768x128 (ix2 t l) = _
      rw [shapeCast_self]

end Cert.KernelIdeal.Router

end
-- ==== Proof.Logit.lean ====
module

public import proofs.«01_k».proof.Proof.Lanes
public import Idealize.ShloMosaic.Lib.Affine

@[expose] public section

set_option maxRecDepth 16384

noncomputable section

namespace Cert.KernelIdeal.Router

open Cert.KernelIdeal.Gen
open Idealize.ShloMosaic

/-! The router logit of a lane: the score the first key index selects plus the score the second selects, each read by two
gathers inside a row of 128 lanes and a selection between the two. -/

/-- The index brought below 128, as the gathers take it. -/
def low (v : IVec S768x128 32) : IVec S768x128 32 :=
  have w := andi v (broadcast S768x128 127#32)
  shapeCast S768x128 (shapeCast S768x128x1 (select (cmpi .slt w (broadcast S768x128 0#32)) (addi w (broadcast S768x128 128#32)) w)
    shapeCasts_S768x128_S768x128x1) shapeCasts_S768x128x1_S768x128

theorem low_fact : ∀ n : Fin 256,
    (Scalar.select (IntOp.cmpi .slt (IntOp.andi (BitVec.ofNat 32 n.val) 127#32) 0#32) (IntOp.addi (IntOp.andi (BitVec.ofNat 32 n.val) 127#32) 128#32)
      (IntOp.andi (BitVec.ofNat 32 n.val) 127#32)).toNat % 128 = n.val % 128 := by decide +kernel

theorem low_apply (v : IVec S768x128 32) (t : Fin 768) (l : Fin 128) (n : Fin 256) (hn : v (ix2 t l) = BitVec.ofNat 32 n.val) :
    (low v (ix2 t l)).toNat % 128 = n.val % 128 := by
  refine Eq.trans ?_ (low_fact n)
  unfold low
  rw [shapeCast_shapeCast, ← hn]
  rfl

/-- A gather at the lowered index out of 128 lanes. -/
theorem gather_apply (x : FVec Ideal S768x128 .f32) (v : IVec S768x128 32) (t : Fin 768) (l : Fin 128) (n : Fin 256)
    (hn : v (ix2 t l) = BitVec.ofNat 32 n.val) :
    dynamicGather 1 x (low v) (ix2 t l) = x (ix2 t ⟨n.val % 128, Nat.mod_lt _ (by decide)⟩) := by
  unfold dynamicGather
  refine congrArg x (funext fun b => ?_)
  match b with
  | ⟨0, _⟩ => rfl
  | ⟨1, _⟩ => exact Fin.ext (low_apply v t l n hn)

theorem slice_apply (o : ℕ) (x : FVec Ideal S768x1024 .f32) (h : S768x1024.Slices ![0, o] S768x128) (t : Fin 768) (c : Fin 128) (ho : o + 128 ≤ 1024) :
    extractStridedSlice S768x128 ![0, o] x h (ix2 t c) = x (ix2 t ⟨o + c.val, by omega⟩) := by
  unfold extractStridedSlice
  refine congrArg x (funext fun b => ?_)
  match b with
  | ⟨0, _⟩ => exact Fin.ext (Nat.zero_add _)
  | ⟨1, _⟩ => rfl

theorem below_fact : ∀ n : Fin 256, IntOp.cmpi .slt (BitVec.ofNat 32 n.val) 128#32 = if n.val < 128 then 1#1 else 0#1 := by decide +kernel

/-- The two gathers and the selection between them read the 256 columns from `o` on. -/
theorem pick_apply (o : ℕ) (x : FVec Ideal S768x1024 .f32) (h : S768x1024.Slices ![0, o] S768x128) (h' : S768x1024.Slices ![0, o + 128] S768x128)
    (v : IVec S768x128 32) (t : Fin 768) (l : Fin 128) (n : Fin 256) (hn : v (ix2 t l) = BitVec.ofNat 32 n.val) (ho : o + 256 ≤ 1024) :
    select (cmpi .slt v (broadcast S768x128 128#32)) (dynamicGather 1 (extractStridedSlice S768x128 ![0, o] x h) (low v))
      (dynamicGather 1 (extractStridedSlice S768x128 ![0, o + 128] x h') (low v)) (ix2 t l) = x (ix2 t ⟨o + n.val, by omega⟩) := by
  rw [ValueIdx.select_apply, gather_apply _ v t l n hn, gather_apply _ v t l n hn, slice_apply _ _ _ _ _ (by omega), slice_apply _ _ _ _ _ (by omega)]
  have hb : cmpi .slt v (broadcast S768x128 128#32) (ix2 t l) = if n.val < 128 then 1#1 else 0#1 := by
    rw [← below_fact n, ← hn]; rfl
  rw [hb]
  split
  · rw [ValueIdx.select_one]
    exact congrArg (fun c => x (ix2 t c)) (Fin.ext (by show o + n.val % 128 = o + n.val; omega))
  · rw [ValueIdx.select_zero]
    exact congrArg (fun c => x (ix2 t c)) (Fin.ext (by show o + 128 + n.val % 128 = o + n.val; omega))

theorem parity_fact : ∀ l : Fin 128, ∃ q : BitVec 32,
    q = Scalar.select (IntOp.andi (IntOp.cmpi .ne (IntOp.subi (BitVec.setWidth 32 (IntOp.cmpi .sgt (BitVec.ofNat 32 l.val) 0#32)) (BitVec.setWidth 32 (IntOp.cmpi .slt (BitVec.ofNat 32 l.val) 0#32)))
        (IntOp.subi (BitVec.setWidth 32 (IntOp.cmpi .sgt 16#32 0#32)) (BitVec.setWidth 32 (IntOp.cmpi .slt 16#32 0#32))))
        (IntOp.cmpi .ne (IntOp.remsi .vector (BitVec.ofNat 32 l.val) 16#32) 0#32))
      (IntOp.subi (IntOp.divsi .vector (BitVec.ofNat 32 l.val) 16#32) 1#32) (IntOp.divsi .vector (BitVec.ofNat 32 l.val) 16#32) ∧
    q = BitVec.ofNat 32 (l.val / 16) := by
  simp only [exists_eq_left]
  decide +kernel

theorem pay4_apply (t : Fin 768) (l : Fin 128) : k0_pay4 (ix2 t l) = BitVec.ofNat 32 (l.val / 16) := by
  obtain ⟨q, hq, hq'⟩ := parity_fact l
  rw [← hq', hq, ← lanes_apply t l]
  rfl

theorem mod_fact : ∀ n : Fin 8,
    IntOp.cmpi .eq (Scalar.select (IntOp.andi (IntOp.xori (IntOp.cmpi .slt (IntOp.remsi .vector (BitVec.ofNat 32 n.val) 2#32) 0#32) (IntOp.cmpi .slt 2#32 0#32))
        (IntOp.cmpi .ne (IntOp.remsi .vector (BitVec.ofNat 32 n.val) 2#32) 0#32))
      (IntOp.addi (IntOp.remsi .vector (BitVec.ofNat 32 n.val) 2#32) 2#32) (IntOp.remsi .vector (BitVec.ofNat 32 n.val) 2#32)) 0#32
    = if n.val % 2 = 0 then 1#1 else 0#1 := by decide +kernel

/-- Whether the lane's head is the first of its grid point. -/
theorem parity_apply (t : Fin 768) (l : Fin 128) : k0_pay5 k0_pay4 2#32 (ix2 t l) = if (l.val / 16) % 2 = 0 then 1#1 else 0#1 := by
  refine Eq.trans ?_ (mod_fact ⟨l.val / 16, by have := l.isLt; omega⟩)
  show _ = IntOp.cmpi .eq (Scalar.select (IntOp.andi (IntOp.xori (IntOp.cmpi .slt (IntOp.remsi .vector (BitVec.ofNat 32 (l.val / 16)) 2#32) 0#32) (IntOp.cmpi .slt 2#32 0#32))
        (IntOp.cmpi .ne (IntOp.remsi .vector (BitVec.ofNat 32 (l.val / 16)) 2#32) 0#32))
      (IntOp.addi (IntOp.remsi .vector (BitVec.ofNat 32 (l.val / 16)) 2#32) 2#32) (IntOp.remsi .vector (BitVec.ofNat 32 (l.val / 16)) 2#32)) 0#32
  rw [← pay4_apply t l]
  rfl

def pick (o : ℕ) (h : S768x1024.Slices ![0, o] S768x128) (h' : S768x1024.Slices ![0, o + 128] S768x128) (x : FVec Ideal S768x1024 .f32) (v : IVec S768x128 32) : FVec Ideal S768x128 .f32 :=
  select (cmpi .slt v (broadcast S768x128 128#32)) (dynamicGather 1 (extractStridedSlice S768x128 ![0, o] x h) (low v))
      (dynamicGather 1 (extractStridedSlice S768x128 ![0, o + 128] x h') (low v))

theorem logit_eq (x : FVec Ideal S768x1024 .f32) (v v' : IVec S768x128 32) :
    logit x v v' = select (k0_pay5 k0_pay4 2#32)
      (addf (pick 0 slices_S768x1024_o0_0_S768x128 slices_S768x1024_o0_128_S768x128 x v) (pick 256 slices_S768x1024_o0_256_S768x128 slices_S768x1024_o0_384_S768x128 x v'))
      (addf (pick 512 slices_S768x1024_o0_512_S768x128 slices_S768x1024_o0_640_S768x128 x v) (pick 768 slices_S768x1024_o0_768_S768x128 slices_S768x1024_o0_896_S768x128 x v')) := rfl

/-- The logit of token `t` and lane `l`, from the two key indices of that lane. -/
theorem logit_apply (x : FVec Ideal S768x1024 .f32) (v v' : IVec S768x128 32) (t : Fin 768) (l : Fin 128) (n n' : Fin 256)
    (hn : v (ix2 t l) = BitVec.ofNat 32 n.val) (hn' : v' (ix2 t l) = BitVec.ofNat 32 n'.val) :
    logit x v v' (ix2 t l) = x (ix2 t ⟨512 * ((l.val / 16) % 2) + n.val, by omega⟩) + x (ix2 t ⟨512 * ((l.val / 16) % 2) + 256 + n'.val, by omega⟩) := by
  rw [logit_eq, ValueIdx.select_apply, parity_apply]
  split
  · rename_i h0
    rw [ValueIdx.select_one]
    show pick 0 _ _ x v (ix2 t l) + pick 256 _ _ x v' (ix2 t l) = _
    unfold pick
    rw [pick_apply 0 x _ _ v t l n hn (by omega), pick_apply 256 x _ _ v' t l n' hn' (by omega)]
    simp only [h0, Nat.mul_zero]
  · rename_i h0
    have h1 : (l.val / 16) % 2 = 1 := by omega
    rw [ValueIdx.select_zero]
    show pick 512 _ _ x v (ix2 t l) + pick 768 _ _ x v' (ix2 t l) = _
    unfold pick
    rw [pick_apply 512 x _ _ v t l n hn (by omega), pick_apply 768 x _ _ v' t l n' hn' (by omega)]
    simp only [h1, Nat.mul_one]

end Cert.KernelIdeal.Router

end
-- ==== Proof.Final.lean ====
module

public import proofs.«01_k».proof.Proof.Scores
public import proofs.«01_k».proof.Proof.Stored
public import proofs.«01_k».proof.Proof.Logit

@[expose] public section

set_option maxRecDepth 16384

noncomputable section

namespace Cert.KernelIdeal.Router

open Cert.KernelIdeal.Gen
open Idealize.ShloMosaic Idealize.ShloMosaic.TcCoe Idealize.SL.Sem
open Idealize.ShloMosaic.Pipeline (Dat)
open Cert.Router (col score slotLogit softmax gates)

/-! The router's result: after the last grid point lane `16 h + s` holds the gate of slot `s` of head `h`, and the program
returns those lanes. -/

variable (m : (ℓ : Loc nD τ sig) → Buf (Elt Ideal) ℓ) (ρ : Dev nD → PrngReg)

abbrev argX (c : Dev nD) : FVec Ideal S3x256x7168 .bf16 := m ((c.tc : Thread nD τ).loc main_arg0)
abbrev argW (c : Dev nD) : FVec Ideal S7168x6x320 .bf16 := m ((c.tc : Thread nD τ).loc main_arg1)
abbrev argK (c : Dev nD) : FVec Ideal S6x2x192x160 .bf16 := m ((c.tc : Thread nD τ).loc main_arg2)
abbrev argI (c : Dev nD) : IVec S3x256x6x16 32 := m ((c.tc : Thread nD τ).loc main_arg3)
abbrev argJ (c : Dev nD) : IVec S3x256x6x16 32 := m ((c.tc : Thread nD τ).loc main_arg4)

/-! The blocks the grid points read. -/

theorem index_facts : ∀ t : Fin grid0.N,
    win0_0.index t (0 : Fin 2) = 0 ∧ win0_0.index t (1 : Fin 2) = 0 ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0 ∧ win0_4.index t (0 : Fin 2) = 0 ∧ win0_4.index t (1 : Fin 2) = 0
    ∧ win0_5.index t (0 : Fin 2) = 0 ∧ win0_5.index t (1 : Fin 2) = 0 := by decide +kernel

theorem point_lt (t : Fin cfg0.N) : t.val < 3 := Nat.lt_of_lt_of_eq t.isLt N_0

theorem iblk0_apply (c : Dev nD) (t : Fin cfg0.N) (r : Fin 768) (d : Fin 7168) :
    (iblk m c 0 t : Vec Ideal S768x7168 .bf16) (ix2 r d) = xEntry (argX m c) (ix2 r d) := by
  obtain ⟨e0, e1, -⟩ := index_facts t
  rw [← V_x]
  refine congrArg (V m c main_v0) (funext fun a => Fin.ext ?_)
  match a with
  | ⟨0, _⟩ => show win0_0.index t (0 : Fin 2) * 768 + 1 * r.val = r.val; omega
  | ⟨1, _⟩ => show win0_0.index t (1 : Fin 2) * 7168 + 1 * d.val = d.val; omega

theorem iblk1_apply (c : Dev nD) (t : Fin cfg0.N) (r : Fin 640) (d : Fin 7168) :
    (iblk m c 1 t : Vec Ideal S640x7168 .bf16) (ix2 r d)
      = wEntry (argW m c) (ix2 (⟨640 * t.val + r.val, by have := point_lt t; omega⟩ : Fin 1920) d) := by
  obtain ⟨-, -, e0, e1, -⟩ := index_facts t
  rw [← V_w]
  refine congrArg (V m c main_v19) (funext fun a => Fin.ext ?_)
  match a with
  | ⟨0, _⟩ => show win0_1.index t (0 : Fin 2) * 640 + 1 * r.val = 640 * t.val + r.val; omega
  | ⟨1, _⟩ => show win0_1.index t (1 : Fin 2) * 7168 + 1 * d.val = d.val; omega

theorem iblk2_apply (c : Dev nD) (t : Fin cfg0.N) (r : Fin 640) (q : Fin 1024) :
    (iblk m c 2 t : Vec Ideal S1x640x1024 .bf16) (ix3 0 r q) = skEntry (argK m c) (ix3 (⟨t.val, point_lt t⟩ : Fin 3) r q) := by
  obtain ⟨-, -, -, -, e0, e1, e2, -⟩ := index_facts t
  rw [← V_sk]
  refine congrArg (V m c main_v17) (funext fun a => Fin.ext ?_)
  match a with
  | ⟨0, _⟩ => show win0_2.index t (0 : Fin 3) * 1 + 1 * 0 = t.val; omega
  | ⟨1, _⟩ => show win0_2.index t (1 : Fin 3) * 640 + 1 * r.val = r.val; omega
  | ⟨2, _⟩ => show win0_2.index t (2 : Fin 3) * 1024 + 1 * q.val = q.val; omega

theorem iblk3_apply (c : Dev nD) (t : Fin cfg0.N) (r : Fin 768) (l : Fin 128) :
    (iblk m c 3 t : Vec Ideal S768x128 .i32) (ix2 r l) = iEntry (argI m c) (ix2 r l) := by
  obtain ⟨-, -, -, -, -, -, -, e0, e1, -⟩ := index_facts t
  rw [← V_i1]
  refine congrArg (V m c main_v20) (funext fun a => Fin.ext ?_)
  match a with
  | ⟨0, _⟩ => show win0_3.index t (0 : Fin 2) * 768 + 1 * r.val = r.val; omega
  | ⟨1, _⟩ => show win0_3.index t (1 : Fin 2) * 128 + 1 * l.val = l.val; omega

theorem iblk4_apply (c : Dev nD) (t : Fin cfg0.N) (r : Fin 768) (l : Fin 128) :
    (iblk m c 4 t : Vec Ideal S768x128 .i32) (ix2 r l) = iEntry (argJ m c) (ix2 r l) := by
  obtain ⟨-, -, -, -, -, -, -, -, -, e0, e1, -⟩ := index_facts t
  rw [← V_i2]
  refine congrArg (V m c main_v21) (funext fun a => Fin.ext ?_)
  match a with
  | ⟨0, _⟩ => show win0_4.index t (0 : Fin 2) * 768 + 1 * r.val = r.val; omega
  | ⟨1, _⟩ => show win0_4.index t (1 : Fin 2) * 128 + 1 * l.val = l.val; omega

/-! One grid point's lanes. -/

/-- Every index names a key. -/
def InRange (i : IVec S3x256x6x16 32) : Prop := ∀ j, (i j).toNat < 192

theorem word_eq (v : BitVec 32) (hv : v.toNat < 192) : v = BitVec.ofNat 32 (col v).val := by
  apply BitVec.eq_of_toNat_eq
  unfold col
  rw [BitVec.toNat_ofNat]
  show v.toNat = v.toNat % 192 % 2 ^ 32
  omega

/-- The logit of lane `16 h + s` at the grid point that computes head `h`. -/
theorem lane_logit (c : Dev nD) (t : Fin cfg0.N) (hi : InRange (argI m c)) (hj : InRange (argJ m c)) (r : Fin 768) (h : Fin 6) (s : Fin 16)
    (hh : h.val / 2 = t.val) (l : Fin 128) (hl : l.val = 16 * h.val + s.val) :
    row (logit (k0_pay1 (iblk m c 0 t) (iblk m c 1 t) (iblk m c 2 t)) (k0_pay2 (iblk m c 3 t)) (k0_pay3 (iblk m c 4 t))) r l
      = slotLogit (argX m c) (argW m c) (argK m c) (argI m c) (argJ m c) (batch r) (place r) h s := by
  unfold row
  have e2 : k0_pay2 (F := Ideal) (iblk m c 3 t) (ix2 r l) = argI m c (ix4 (batch r) (place r) h s) := by
    unfold k0_pay2
    rw [← iEntry_apply (argI m c) r h s l hl, ← iblk3_apply m c t r l]
    exact congrFun (shapeCast_self _ _) _
  have e3 : k0_pay3 (F := Ideal) (iblk m c 4 t) (ix2 r l) = argJ m c (ix4 (batch r) (place r) h s) := by
    unfold k0_pay3
    rw [← iEntry_apply (argJ m c) r h s l hl, ← iblk4_apply m c t r l]
    exact congrFun (shapeCast_self _ _) _
  rw [logit_apply _ _ _ r l ⟨(col (argI m c (ix4 (batch r) (place r) h s))).val, by omega⟩ ⟨(col (argJ m c (ix4 (batch r) (place r) h s))).val, by omega⟩
    (e2.trans (word_eq _ (hi _))) (e3.trans (word_eq _ (hj _)))]
  have hp : (l.val / 16) % 2 = h.val % 2 := by have := s.isLt; omega
  unfold slotLogit
  refine congrArg₂ (fun x y : EReal => x + y) ?_ ?_
  · exact scores_apply ⟨t.val, point_lt t⟩ (argX m c) (argW m c) (argK m c) _ _ _ (fun r d => iblk0_apply m c t r d) (fun r d => iblk1_apply m c t r d)
      (fun r q => iblk2_apply m c t r q) r h 0 _ _ hh (by
        show 512 * ((l.val / 16) % 2) + (col (argI m c (ix4 (batch r) (place r) h s))).val = 512 * (h.val % 2) + 256 * 0 + (col (argI m c (ix4 (batch r) (place r) h s))).val
        rw [hp]; omega)
  · exact scores_apply ⟨t.val, point_lt t⟩ (argX m c) (argW m c) (argK m c) _ _ _ (fun r d => iblk0_apply m c t r d) (fun r d => iblk1_apply m c t r d)
      (fun r q => iblk2_apply m c t r q) r h 1 _ _ hh (by
        show 512 * ((l.val / 16) % 2) + 256 + (col (argJ m c (ix4 (batch r) (place r) h s))).val = 512 * (h.val % 2) + 256 * 1 + (col (argJ m c (ix4 (batch r) (place r) h s))).val
        rw [hp])

/-- The gate of lane `16 h + s` there. -/
theorem lane_gate (c : Dev nD) (t : Fin cfg0.N) (hi : InRange (argI m c)) (hj : InRange (argJ m c)) (r : Fin 768) (h : Fin 6) (s : Fin 16)
    (hh : h.val / 2 = t.val) (l : Fin 128) (hl : l.val = 16 * h.val + s.val) :
    gate (row (logit (k0_pay1 (iblk m c 0 t) (iblk m c 1 t) (iblk m c 2 t)) (k0_pay2 (iblk m c 3 t)) (k0_pay3 (iblk m c 4 t))) r) l
      = gates (argX m c) (argW m c) (argK m c) (argI m c) (argJ m c) (batch r) (place r) h s := by
  have hs : ∀ s' : Fin 16, row (logit (k0_pay1 (iblk m c 0 t) (iblk m c 1 t) (iblk m c 2 t)) (k0_pay2 (iblk m c 3 t)) (k0_pay3 (iblk m c 4 t))) r (headLane l s')
      = slotLogit (argX m c) (argW m c) (argK m c) (argI m c) (argJ m c) (batch r) (place r) h s' := fun s' =>
    lane_logit m c t hi hj r h s' hh _ (by show 16 * (l.val / 16) + s'.val = 16 * h.val + s'.val; have := s.isLt; omega)
  unfold gate gates softmax
  rw [lane_logit m c t hi hj r h s hh l hl]
  simp only [hs]

/-! The buffer after each point. -/

theorem step_apply (c : Dev nD) (t : Fin cfg0.N) (hi : InRange (argI m c)) (hj : InRange (argJ m c)) (xo : Vec Ideal S768x128 .f32) (r : Fin 768) (h : Fin 6) (s : Fin 16)
    (l : Fin 128) (hl : l.val = 16 * h.val + s.val) :
    step (grid0.coords t) (iblk m c 0 t) (iblk m c 1 t) (iblk m c 2 t) (iblk m c 3 t) (iblk m c 4 t) xo (ix2 r l)
      = if h.val / 2 = t.val then gates (argX m c) (argW m c) (argK m c) (argI m c) (argJ m c) (batch r) (place r) h s
        else if t.val = 0 then 0 else xo (ix2 r l) := by
  unfold step
  rw [coord_val t, stored_apply t.val (point_lt t)]
  have e : l.val / 32 = h.val / 2 := by have := s.isLt; omega
  rw [e]
  split
  · rename_i hh
    exact lane_gate m c t hi hj r h s hh l hl
  · rfl

theorem outs_apply (c : Dev nD) (hi : InRange (argI m c)) (hj : InRange (argJ m c)) (r : Fin 768) (h : Fin 6) (s : Fin 16)
    (l : Fin 128) (hl : l.val = 16 * h.val + s.val) : (n : ℕ) → (hn : n < cfg0.N) → outs m c n hn (ix2 r l)
      = if h.val / 2 ≤ n then gates (argX m c) (argW m c) (argK m c) (argI m c) (argJ m c) (batch r) (place r) h s else 0
  | 0, hn => by
    unfold outs
    rw [step_apply m c ⟨0, hn⟩ hi hj _ r h s l hl]
    simp only [Nat.le_zero]
    split <;> simp
  | n + 1, hn => by
    unfold outs
    rw [step_apply m c ⟨n + 1, hn⟩ hi hj _ r h s l hl, outs_apply c hi hj r h s l hl n]
    show (if h.val / 2 = n + 1 then _ else if n + 1 = 0 then _ else _) = _
    rw [if_neg (Nat.succ_ne_zero n)]
    split
    · rename_i h1; rw [if_pos (by omega)]
    · rename_i h1
      by_cases h2 : h.val / 2 ≤ n
      · rw [if_pos h2, if_pos (by omega)]
      · rw [if_neg h2, if_neg (by omega)]

/-! The result array. -/

theorem last_lt : 2 < cfg0.N := lt_of_lt_of_eq (by decide) (show cfg0.N = 3 from N_0).symm

theorem mem_blk5 (t : Fin cfg0.N) (i : S768x128.Idx) : i ∈ ((cfg0.win 5).blk t).view.set := by
  show i ∈ ((View.whole main_v22).slice (win0_5.rect t)).set
  rw [View.set_slice_whole, Rect.mem_set_unit]
  obtain ⟨-, -, -, -, -, -, -, -, -, -, -, e0, e1⟩ := index_facts t
  intro a
  match a with
  | ⟨0, _⟩ => have := (i 0).isLt; show win0_5.index t (0 : Fin 2) * 768 ≤ (i 0).val ∧ (i 0).val < win0_5.index t (0 : Fin 2) * 768 + 768; rw [e0]; exact ⟨by omega, by change (i 0).val < 768 at this; omega⟩
  | ⟨1, _⟩ => have := (i 1).isLt; show win0_5.index t (1 : Fin 2) * 128 ≤ (i 1).val ∧ (i 1).val < win0_5.index t (1 : Fin 2) * 128 + 128; rw [e1]; exact ⟨by omega, by change (i 1).val < 128 at this; omega⟩

theorem final5 (c : Dev nD) : (dats m 0 c).arrAt 5 cfg0.N = outs m c 2 last_lt := by
  refine (dats m 0 c).arrAt_eq_of_cover 5 _ (fun t hf => ?_) (fun i => ⟨⟨2, last_lt⟩, (flush0_5 _).2 rfl, mem_blk5 _ i⟩)
  have ht : t.val = 2 := by have := (flush0_5 t).mp hf; have := point_lt t; omega
  obtain rfl : t = ⟨2, last_lt⟩ := Fin.ext ht
  show (cfg0.win 5).cut (grid0.coords _) ((dats m 0 c).after 5 _) = _
  rw [after5]
  obtain ⟨-, -, -, -, -, -, -, -, -, -, -, e0, e1⟩ := index_facts ⟨2, last_lt⟩
  funext y
  refine congrArg (outs m c 2 last_lt) (funext fun a => Fin.ext ?_)
  match a with
  | ⟨0, _⟩ => show (y 0).val = win0_5.index ⟨2, last_lt⟩ (0 : Fin 2) * 768 + 1 * (y 0).val; rw [e0]; omega
  | ⟨1, _⟩ => show (y 1).val = win0_5.index ⟨2, last_lt⟩ (1 : Fin 2) * 128 + 1 * (y 1).val; rw [e1]; omega

/-- The lanes the program returns. -/
def tail (o : FVec Ideal S768x128 .f32) : FVec Ideal S3x256x6x16 .f32 :=
  shapeCast S3x256x6x16 (extractStridedSlice S768x96 ![0, 0] o slices_S768x128_S768x96_0_0) shapeCasts_S768x96_S3x256x6x16

theorem tail_apply (o : FVec Ideal S768x128 .f32) (b : Fin 3) (t : Fin 256) (h : Fin 6) (s : Fin 16) :
    tail o (ix4 b t h s) = o (ix2 (⟨256 * b.val + t.val, by omega⟩ : Fin 768) (⟨16 * h.val + s.val, by omega⟩ : Fin 128)) := by
  unfold tail
  refine (shapeCast_apply _ _ _ (ix2 (⟨256 * b.val + t.val, by omega⟩ : Fin 768) (⟨16 * h.val + s.val, by omega⟩ : Fin 96)) ?_).trans ?_
  · rw [Shape.rowMajor_val_four, Shape.rowMajor_val_two]
    show (256 * b.val + t.val) * 96 + (16 * h.val + s.val) = ((b.val * 256 + t.val) * 6 + h.val) * 16 + s.val
    omega
  · unfold extractStridedSlice
    refine congrArg o (funext fun a => Fin.ext ?_)
    match a with
    | ⟨0, _⟩ => exact Nat.zero_add _
    | ⟨1, _⟩ => exact Nat.zero_add _

theorem tail_read (c : Dev nD) : Pipeline.afterTail₀ cfgs (dats m) 0 (V0 m) [hostOps1] c main_v24 = tail (outs m c 2 last_lt) := by
  unfold Pipeline.afterTail₀
  show StableHlo.after (List.flatten [hostOps1]) _ (Proc.devRef .tc main_v24) = _
  simp only [hostOps1, List.flatten_cons, List.flatten_nil, List.append_nil]
  after_reads_simp
  have e := Pipeline.withArrays_arr (cfgs 0).spec (by decide) c (V0 m c) (fun w => (dats m 0 c).arrAt w (cfgs 0).N) 5
  exact congrArg tail (e.trans (final5 m c))

/-- The run of the kernel program: the result holds the gates. -/
theorem run_gates (hi : ∀ c, InRange (argI m c)) (hj : ∀ c, InRange (argJ m c)) :
    θ_run defs (onTc (τ := τ) (main (F := Ideal))) ⟨m, fun _ => 0, ρ⟩ fun r => ∀ (c : Dev nD) (b : Fin 3) (t : Fin 256) (h : Fin 6) (s : Fin 16),
      (r.2.mem ((c.tc : Thread nD τ).loc main_v24) : FVec Ideal S3x256x6x16 .f32) (ix4 b t h s)
        = gates (argX m c) (argW m c) (argK m c) (argI m c) (argJ m c) b t h s := by
  refine (θ_run defs _ _).mono (fun r hr c b t h s => ?_) (run_main m ρ)
  rw [(hr c).2 main_v24 (Pipeline.mem_restRefs_of main_v24 (by decide) (by decide)), tail_read m c, tail_apply,
    outs_apply m c (hi c) (hj c) _ h s _ rfl 2 last_lt, if_pos (by have := h.isLt; omega)]
  have e1 : batch (⟨256 * b.val + t.val, by omega⟩ : Fin 768) = b := Fin.ext (by show (256 * b.val + t.val) / 256 = b.val; omega)
  have e2 : place (⟨256 * b.val + t.val, by omega⟩ : Fin 768) = t := Fin.ext (by show (256 * b.val + t.val) % 256 = t.val; omega)
  rw [e1, e2]

end Cert.KernelIdeal.Router

end
-- ==== Proof.Reference.lean ====
module

public import proofs.«01_k».proof.Proof.Gen.ReferenceIdeal
public import proofs.«01_k».proof.Proof.Gen.ReferenceIdeal.Read
public import proofs.«01_k».proof.Proof.Spec
public import Idealize.ShloMosaic.Lib.Pointwise
public import Idealize.ShloMosaic.Lib.ReduceAll
public import Idealize.ShloMosaic.Lib.Affine

@[expose] public section

set_option maxRecDepth 16384

noncomputable section

namespace Cert.ReferenceIdeal.Router

open Cert.ReferenceIdeal.Gen Cert.ReferenceIdeal.Read
open Idealize.ShloMosaic Idealize.ShloMosaic.TcCoe Idealize.SL.Sem
open Cert.Router (col query score slotLogit softmax gates)

/-! The reference read entry by entry: scores of the two halves, the indexed scores, and the softmax of their sums. -/

variable (x : FVec Ideal S3x256x7168 .bf16) (w : FVec Ideal S7168x6x320 .bf16) (k : FVec Ideal S6x2x192x160 .bf16)
  (i1 i2 : IVec S3x256x6x16 32)

theorem query_zero (b : Fin 3) (t : Fin 256) (h : Fin 6) (e : Fin 160) :
    val_main_v2 (F := Ideal) x w (ix4 b t h e) = query x w b t h 0 e := by
  rw [val_main_v2_apply, val_main_v1_apply]
  refine (val_main_v0_apply x w _).trans (Finset.sum_congr rfl fun d _ => congrArg₂ (· * ·) (congrArg x (funext fun a => Fin.ext ?_)) (congrArg w (funext fun a => Fin.ext ?_)))
  · match a with
    | ⟨0, _⟩ => rfl
    | ⟨1, _⟩ => rfl
    | ⟨2, _⟩ => rfl
  · match a with
    | ⟨0, _⟩ => rfl
    | ⟨1, _⟩ => rfl
    | ⟨2, _⟩ => show e.val = 160 * 0 + e.val; omega

theorem query_one (b : Fin 3) (t : Fin 256) (h : Fin 6) (e : Fin 160) :
    val_main_v3 (F := Ideal) x w (ix4 b t h e) = query x w b t h 1 e := by
  rw [val_main_v3_apply, val_main_v1_apply]
  refine (val_main_v0_apply x w _).trans (Finset.sum_congr rfl fun d _ => congrArg₂ (· * ·) (congrArg x (funext fun a => Fin.ext ?_)) (congrArg w (funext fun a => Fin.ext ?_)))
  · match a with
    | ⟨0, _⟩ => rfl
    | ⟨1, _⟩ => rfl
    | ⟨2, _⟩ => rfl
  · match a with
    | ⟨0, _⟩ => rfl
    | ⟨1, _⟩ => rfl
    | ⟨2, _⟩ => show 160 + e.val = 160 * 1 + e.val; omega

theorem key_zero (h : Fin 6) (n : Fin 192) (e : Fin 160) : val_main_v5 (F := Ideal) k (ix3 h n e) = k (ix4 h 0 n e) := by
  rw [val_main_v5_apply, val_main_v4_apply]
  refine congrArg k (funext fun a => Fin.ext ?_)
  match a with
  | ⟨0, _⟩ => show ((h.val * 192 + n.val) * 160 + e.val) / 30720 = h.val; omega
  | ⟨1, _⟩ => rfl
  | ⟨2, _⟩ => show ((h.val * 192 + n.val) * 160 + e.val) / 160 % 192 = n.val; omega
  | ⟨3, _⟩ => show ((h.val * 192 + n.val) * 160 + e.val) % 160 = e.val; omega

theorem key_one (h : Fin 6) (n : Fin 192) (e : Fin 160) : val_main_v9 (F := Ideal) k (ix3 h n e) = k (ix4 h 1 n e) := by
  rw [val_main_v9_apply, val_main_v8_apply]
  refine congrArg k (funext fun a => Fin.ext ?_)
  match a with
  | ⟨0, _⟩ => show ((h.val * 192 + n.val) * 160 + e.val) / 30720 = h.val; omega
  | ⟨1, _⟩ => rfl
  | ⟨2, _⟩ => show ((h.val * 192 + n.val) * 160 + e.val) / 160 % 192 = n.val; omega
  | ⟨3, _⟩ => show ((h.val * 192 + n.val) * 160 + e.val) % 160 = e.val; omega

theorem score_zero (b : Fin 3) (t : Fin 256) (h : Fin 6) (n : Fin 192) :
    val_main_v7 (F := Ideal) x w k (ix4 b t h n) = score x w k b t h 0 n := by
  rw [val_main_v7_apply, val_main_v6_apply]
  refine Finset.sum_congr rfl fun e _ => ?_
  have el : lidx_main_v6 (idx_main_v7 (ix4 b t h n)) e = ix3 h n e := funext fun a => Fin.ext (by match a with | ⟨0, _⟩ => rfl | ⟨1, _⟩ => rfl | ⟨2, _⟩ => rfl)
  have er : ridx_main_v6 (idx_main_v7 (ix4 b t h n)) e = ix4 b t h e := funext fun a => Fin.ext (by match a with | ⟨0, _⟩ => rfl | ⟨1, _⟩ => rfl | ⟨2, _⟩ => rfl | ⟨3, _⟩ => rfl)
  rw [el, er, key_zero, query_zero]
  exact mul_comm (k (ix4 h 0 n e) : EReal) _

theorem score_one (b : Fin 3) (t : Fin 256) (h : Fin 6) (n : Fin 192) :
    val_main_v11 (F := Ideal) x w k (ix4 b t h n) = score x w k b t h 1 n := by
  rw [val_main_v11_apply, val_main_v10_apply]
  refine Finset.sum_congr rfl fun e _ => ?_
  have el : lidx_main_v10 (idx_main_v11 (ix4 b t h n)) e = ix3 h n e := funext fun a => Fin.ext (by match a with | ⟨0, _⟩ => rfl | ⟨1, _⟩ => rfl | ⟨2, _⟩ => rfl)
  have er : ridx_main_v10 (idx_main_v11 (ix4 b t h n)) e = ix4 b t h e := funext fun a => Fin.ext (by match a with | ⟨0, _⟩ => rfl | ⟨1, _⟩ => rfl | ⟨2, _⟩ => rfl | ⟨3, _⟩ => rfl)
  rw [el, er, key_one, query_one]
  exact mul_comm (k (ix4 h 1 n e) : EReal) _

/-! Reading an array at the indices of another along its last axis. -/

/-- The start index a result index reads. -/
abbrev startAt (y : S3x256x6x16.Idx) : S3x256x6x16x1.Idx := ix5 (y 0) (y 1) (y 2) (y 3) 0

theorem gather_apply {α : Type} (v : S3x256x6x192.Idx → α) (idx : IVec S3x256x6x16x1 32) (b : Fin 3) (t : Fin 256) (h : Fin 6) (s : Fin 16) :
    Host.gather gather_S3x256x6x192_S3x256x6x16x1_S3x256x6x16_n_3_012_012_3_4_1111 v idx (ix4 b t h s)
      = v (ix4 b t h (⟨min (idx (ix5 b t h s 0)).toInt.toNat 191, by omega⟩ : Fin 192)) := by
  unfold Host.gather
  congr 1
  funext a
  refine Fin.ext ?_
  generalize hd : gather_S3x256x6x192_S3x256x6x16x1_S3x256x6x16_n_3_012_012_3_4_1111 = d
  have ho : d.operandBatchingDims = [0, 1, 2] := by rw [← hd]; rfl
  have hc : d.collapsedSliceDims = [3] := by rw [← hd]; rfl
  have hm : d.startIndexMap = [3] := by rw [← hd]; rfl
  show d.start (ix4 b t h s) idx a + d.batchCoord (ix4 b t h s) a + d.offCoord (ix4 b t h s) a = _
  rw [GatherDims.offCoord_eq_zero _ _ _ (fun hh => by
    have := (GatherDims.mem_sKept _ _).mp hh
    rw [ho, hc] at this
    revert this; clear hh; revert a; decide)]
  have h3 : a ∈ d.operandBatchingDims ∨ a = 3 := by rw [ho]; clear hm hc; revert a; decide
  rcases h3 with h3 | rfl
  · rw [GatherDims.start_batching _ _ _ _ h3]
    subst hd
    unfold GatherDims.batchCoord
    rw [dif_pos h3]
    simp only [Nat.zero_add, Nat.add_zero]
    match a, h3 with
    | ⟨0, _⟩, _ => rfl
    | ⟨1, _⟩, _ => rfl
    | ⟨2, _⟩, _ => rfl
  · rw [GatherDims.batchCoord_eq_zero _ _ _ (by rw [ho]; decide)]
    subst hd
    unfold GatherDims.start
    rw [dif_pos (by rw [hm]; decide)]
    refine congrArg (fun z => min (idx z).toInt.toNat 191) (funext fun c => Fin.ext ?_)
    match c with
    | ⟨0, _⟩ => rfl
    | ⟨1, _⟩ => rfl
    | ⟨2, _⟩ => rfl
    | ⟨3, _⟩ => rfl
    | ⟨4, _⟩ => rfl

theorem toInt_word {v : BitVec 32} (hv : v.toNat < 192) : v.toInt = v.toNat := by
  rw [BitVec.toInt_eq_toNat_cond, if_pos (by omega)]

theorem not_neg {v : BitVec 32} (hv : v.toNat < 192) : IntOp.cmpi .slt v 0#32 ≠ 1#1 := by
  rw [Ne, IntOp.cmpi_slt, toInt_word hv]; simp

theorem ge_zero {v : BitVec 32} (hv : v.toNat < 192) : IntOp.cmpi .sge v 0#32 = 1#1 := by
  rw [IntOp.cmpi_sge, toInt_word hv]; simp

theorem le_last {v : BitVec 32} (hv : v.toNat < 192) : IntOp.cmpi .sle v 191#32 = 1#1 := by
  rw [IntOp.cmpi_sle, toInt_word hv]; show (v.toNat : Int) ≤ 191; omega

theorem clamp_word {v : BitVec 32} (hv : v.toNat < 192) (hb : min v.toInt.toNat 191 < 192) : (⟨min v.toInt.toNat 191, hb⟩ : Fin 192) = col v :=
  Fin.ext (by have := toInt_word hv; show min v.toInt.toNat 191 = v.toNat % 192; omega)

section First
variable (hi : ∀ j, (i1 j).toNat < 192)
include hi

theorem fixed0 (j : S3x256x6x16.Idx) : val_main_call0_v4 (F := Ideal) i1 j = i1 j := by
  rw [val_main_call0_v4_apply, val_main_call0_v1_apply, val_main_call0_v0_apply, val_main_call0_c_apply]
  unfold Scalar.select
  exact if_neg (not_neg (hi j))

theorem start0 (j : S3x256x6x16x1.Idx) : ∃ j', val_main_call0_v5 (F := Ideal) i1 j = i1 j' :=
  ⟨idx_main_call0_v5 j, by rw [val_main_call0_v5_apply, fixed0 i1 hi]⟩

theorem inside0 (j : S3x256x6x16.Idx) : val_main_call0_v12 (F := Ideal) i1 j = 1#1 := by
  unfold val_main_call0_v12
  refine Host.reduce_andi_one _ _ _ _ _ rfl fun q => ?_
  obtain ⟨j', e⟩ := start0 i1 hi q
  rw [val_main_call0_v11_apply, val_main_call0_v7_apply, val_main_call0_v10_apply, e, val_main_call0_v6_apply, val_main_call0_c_2_apply,
    val_main_call0_v9_apply, val_main_call0_v8_apply, val_main_call0_c_1_apply, ge_zero (hi j'), le_last (hi j')]
  rfl

theorem take0 (b : Fin 3) (t : Fin 256) (h : Fin 6) (s : Fin 16) :
    val_main_v12 (F := Ideal) x w k i1 (ix4 b t h s) = score x w k b t h 0 (col (i1 (ix4 b t h s))) := by
  rw [val_main_v12_apply, inside0 i1 hi, ValueIdx.select_one]
  unfold val_main_call0_v13
  rw [gather_apply, score_zero]
  have e : val_main_call0_v5 (F := Ideal) i1 (ix5 b t h s 0) = i1 (ix4 b t h s) := by
    rw [val_main_call0_v5_apply, fixed0 i1 hi]
    refine congrArg i1 (funext fun a => Fin.ext ?_)
    match a with
    | ⟨0, _⟩ => show ((((b.val * 256 + t.val) * 6 + h.val) * 16 + s.val) * 1 + 0) / 24576 = b.val; omega
    | ⟨1, _⟩ => show ((((b.val * 256 + t.val) * 6 + h.val) * 16 + s.val) * 1 + 0) / 96 % 256 = t.val; omega
    | ⟨2, _⟩ => show ((((b.val * 256 + t.val) * 6 + h.val) * 16 + s.val) * 1 + 0) / 16 % 6 = h.val; omega
    | ⟨3, _⟩ => show ((((b.val * 256 + t.val) * 6 + h.val) * 16 + s.val) * 1 + 0) % 16 = s.val; omega
  simp only [e]
  rw [clamp_word (hi _)]

end First

section Second
variable (hj : ∀ j, (i2 j).toNat < 192)
include hj

theorem fixed1 (j : S3x256x6x16.Idx) : val_main_call1_v4 (F := Ideal) i2 j = i2 j := by
  rw [val_main_call1_v4_apply, val_main_call1_v1_apply, val_main_call1_v0_apply, val_main_call1_c_apply]
  unfold Scalar.select
  exact if_neg (not_neg (hj j))

theorem inside1 (j : S3x256x6x16.Idx) : val_main_call1_v12 (F := Ideal) i2 j = 1#1 := by
  unfold val_main_call1_v12
  refine Host.reduce_andi_one _ _ _ _ _ rfl fun q => ?_
  rw [val_main_call1_v11_apply, val_main_call1_v7_apply, val_main_call1_v10_apply, val_main_call1_v5_apply, fixed1 i2 hj, val_main_call1_v6_apply, val_main_call1_c_2_apply,
    val_main_call1_v9_apply, val_main_call1_v8_apply, val_main_call1_c_1_apply, ge_zero (hj _), le_last (hj _)]
  rfl

theorem take1 (b : Fin 3) (t : Fin 256) (h : Fin 6) (s : Fin 16) :
    val_main_v13 (F := Ideal) x w k i2 (ix4 b t h s) = score x w k b t h 1 (col (i2 (ix4 b t h s))) := by
  rw [val_main_v13_apply, inside1 i2 hj, ValueIdx.select_one]
  unfold val_main_call1_v13
  rw [gather_apply, score_one]
  have e : val_main_call1_v5 (F := Ideal) i2 (ix5 b t h s 0) = i2 (ix4 b t h s) := by
    rw [val_main_call1_v5_apply, fixed1 i2 hj]
    refine congrArg i2 (funext fun a => Fin.ext ?_)
    match a with
    | ⟨0, _⟩ => show ((((b.val * 256 + t.val) * 6 + h.val) * 16 + s.val) * 1 + 0) / 24576 = b.val; omega
    | ⟨1, _⟩ => show ((((b.val * 256 + t.val) * 6 + h.val) * 16 + s.val) * 1 + 0) / 96 % 256 = t.val; omega
    | ⟨2, _⟩ => show ((((b.val * 256 + t.val) * 6 + h.val) * 16 + s.val) * 1 + 0) / 16 % 6 = h.val; omega
    | ⟨3, _⟩ => show ((((b.val * 256 + t.val) * 6 + h.val) * 16 + s.val) * 1 + 0) % 16 = s.val; omega
  simp only [e]
  rw [clamp_word (hj _)]

end Second

/-! The softmax. -/

theorem reduces : S3x256x6x16.Reduces [3] S3x256x6 := by decide

/-- A fold by the larger from the bottom is the supremum. -/
theorem fold_max (f : Fin 16 → EReal) : (Finset.univ : Finset (Fin 16)).fold max ⊥ f = ⨆ s, f s := by
  rw [← Finset.sup_univ_eq_iSup]; rfl

theorem neg_inf : FloatOps.ofBits (F := Ideal) .f32 0xFF800000#32 = (⊥ : EReal) := by
  show Ideal.ofBits .f32 0xFF800000#32 = ⊥
  simp [Ideal.ofBits, Ideal.ieee]

section Both
variable (hi : ∀ j, (i1 j).toNat < 192) (hj : ∀ j, (i2 j).toNat < 192)
include hi hj

theorem logit (b : Fin 3) (t : Fin 256) (h : Fin 6) (s : Fin 16) :
    val_main_v14 (F := Ideal) x w k i1 i2 (ix4 b t h s) = slotLogit x w k i1 i2 b t h s := by
  rw [val_main_v14_apply, take0 x w k i1 hi, take1 x w k i2 hj]
  rfl

theorem largest (b : Fin 3) (t : Fin 256) (h : Fin 6) :
    val_main_v17 (F := Ideal) x w k i1 i2 (ix3 b t h) = ⨆ s : Fin 16, slotLogit x w k i1 i2 b t h s := by
  have e : val_main_v15 (F := Ideal) x w k i1 i2 (ix3 b t h) = ⨆ s : Fin 16, slotLogit x w k i1 i2 b t h s := by
    unfold val_main_v15
    haveI : Std.Commutative (FloatOps.maximumf (F := Ideal) (φ := .f32)) := ⟨fun a b => max_comm (a : EReal) b⟩
    haveI : Std.Associative (FloatOps.maximumf (F := Ideal) (φ := .f32)) := ⟨fun a b c => max_assoc (a : EReal) b c⟩
    rw [Host.reduce_eq_fold_single FloatOps.maximumf _ _ reducesTo_S3x256x6x16_S3x256x6_d3 reduces h_S_]
    refine Eq.trans ?_ (fold_max fun s => slotLogit x w k i1 i2 b t h s)
    rw [val_main_cst_apply, neg_inf]
    refine congrArg (Finset.fold (max : EReal → EReal → EReal) ⊥ · _) (funext fun s => ?_)
    refine Eq.trans (congrArg (val_main_v14 (F := Ideal) x w k i1 i2) (funext fun a => Fin.ext ?_)) (logit x w k i1 i2 hi hj b t h s)
    match a with
    | ⟨0, _⟩ => rfl
    | ⟨1, _⟩ => rfl
    | ⟨2, _⟩ => rfl
    | ⟨3, _⟩ => rfl
  rw [val_main_v17_apply, e, val_main_v16_apply, val_main_cst_0_apply, neg_inf]
  exact max_eq_right (bot_le (a := (⨆ s : Fin 16, slotLogit x w k i1 i2 b t h s : EReal)))

theorem weight (b : Fin 3) (t : Fin 256) (h : Fin 6) (s : Fin 16) :
    val_main_v21 (F := Ideal) x w k i1 i2 (ix4 b t h s)
      = Ideal.exp (slotLogit x w k i1 i2 b t h s - ⨆ s' : Fin 16, slotLogit x w k i1 i2 b t h s') := by
  rw [val_main_v21_apply, val_main_v20_apply, logit x w k i1 i2 hi hj, val_main_v19_apply, val_main_v18_apply]
  have e : idx_main_v18 (idx_main_v19 (ix4 b t h s)) = ix3 b t h := funext fun a => Fin.ext (by match a with | ⟨0, _⟩ => rfl | ⟨1, _⟩ => rfl | ⟨2, _⟩ => rfl)
  rw [e, largest x w k i1 i2 hi hj]
  rfl

theorem reference_gates (b : Fin 3) (t : Fin 256) (h : Fin 6) (s : Fin 16) :
    val_main_v25 (F := Ideal) x w k i1 i2 (ix4 b t h s) = gates x w k i1 i2 b t h s := by
  rw [val_main_v25_apply, weight x w k i1 i2 hi hj, val_main_v24_apply, val_main_v23_apply]
  have e : idx_main_v23 (idx_main_v24 (ix4 b t h s)) = ix3 b t h := funext fun a => Fin.ext (by match a with | ⟨0, _⟩ => rfl | ⟨1, _⟩ => rfl | ⟨2, _⟩ => rfl)
  rw [e, val_main_v22_apply]
  have e0 : val_main_cst_1 (F := Ideal) (Shape.Idx.first h_S_) = (0 : EReal) := by
    rw [val_main_cst_1_apply]; pointwise
  have es : (∑ q : Fin 16, val_main_v21 (F := Ideal) x w k i1 i2 (idx_main_v22 (ix3 b t h) q) : EReal)
      = ∑ s' : Fin 16, Ideal.exp (slotLogit x w k i1 i2 b t h s' - ⨆ s'' : Fin 16, slotLogit x w k i1 i2 b t h s'') :=
    Finset.sum_congr rfl fun q _ => by
      have e' : idx_main_v22 (ix3 b t h) q = ix4 b t h q := funext fun a => Fin.ext (by match a with | ⟨0, _⟩ => rfl | ⟨1, _⟩ => rfl | ⟨2, _⟩ => rfl | ⟨3, _⟩ => rfl)
      rw [e', weight x w k i1 i2 hi hj]
  rw [e0, es, zero_add]
  rfl

end Both

end Cert.ReferenceIdeal.Router

end
-- ==== Proof.Range.lean ====
module

public import proofs.«01_k».proof.Pre_pre
public import proofs.«01_k».proof.Proof.Gen.Pre_pre
public import Idealize.ShloMosaic.PureOps.Ideal
public import Idealize.ShloMosaic.Lib.ReduceAll
public import Idealize.ShloMosaic.Lib.Affine

@[expose] public section

noncomputable section

namespace Cert.Pre_pre.Router

open Cert.Pre_pre Cert.Pre_pre.Gen Cert.Pre_pre.Facts
open Idealize.ShloMosaic

/-! The precondition says that every index word of both index arrays names one of the 192 key columns. -/

theorem and_left {a b : BitVec 1} (h : IntOp.andi a b = 1#1) : a = 1#1 := by revert a b; decide

theorem and_right {a b : BitVec 1} (h : IntOp.andi a b = 1#1) : b = 1#1 := by revert a b; decide

/-- A word that is at least zero and below 192, read signed, is below 192. -/
theorem word_range {v : BitVec 32} (h0 : IntOp.cmpi .sge v 0#32 = 1#1) (h1 : IntOp.cmpi .slt v 192#32 = 1#1) : v.toNat < 192 := by
  rw [IntOp.cmpi_sge] at h0
  rw [IntOp.cmpi_slt] at h1
  have e0 : (0#32 : BitVec 32).toInt = 0 := rfl
  have e1 : (192#32 : BitVec 32).toInt = 192 := rfl
  rw [e0] at h0
  rw [e1] at h1
  have := BitVec.toInt_eq_toNat_cond v
  have := v.isLt
  omega

instance : Subsingleton S_.Idx := ⟨fun a b => funext fun z => z.elim0⟩

variable (x : FVec Ideal S3x256x7168 .bf16) (w : FVec Ideal S7168x6x320 .bf16) (k : FVec Ideal S6x2x192x160 .bf16) (i1 i2 : IVec S3x256x6x16 32)

theorem ranges (h : fn (F := Ideal) x w k i1 i2 = fun _ => 1#1) : (∀ j, (i1 j).toNat < 192) ∧ ∀ j, (i2 j).toNat < 192 := by
  have e := congrFun h (fun a => a.elim0)
  have e4 := and_right e
  have e3 := and_right (and_left e)
  have e2 := and_right (and_left (and_left e))
  have e1 := and_left (and_left (and_left e))
  exact ⟨fun j => word_range (Host.reduce_andi_all _ _ _ _ _ e1 j) (Host.reduce_andi_all _ _ _ _ _ e2 j),
    fun j => word_range (Host.reduce_andi_all _ _ _ _ _ e3 j) (Host.reduce_andi_all _ _ _ _ _ e4 j)⟩

end Cert.Pre_pre.Router

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_pre
public import proofs.«01_k».proof.Proof.WordRun
public import proofs.«01_k».proof.Proof.Run
public import proofs.«01_k».proof.Proof.Final
public import proofs.«01_k».proof.Proof.Reference
public import proofs.«01_k».proof.Proof.Range
public import Idealize.ShloMosaic.Adequacy
public import Idealize.ShloMosaic.Init

@[expose] public section

noncomputable section

namespace Cert.Proof

open Idealize.ShloMosaic Idealize.SL.Sem

/-- The reference leaves its arguments unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- An index of the result is four coordinates. -/
theorem idx_eta (j : (⟨4, ![3, 256, 6, 16]⟩ : Shape).Idx) : j = ix4 (j 0) (j 1) (j 2) (j 3) := by
  funext a
  match a with
  | ⟨0, _⟩ => rfl
  | ⟨1, _⟩ => rfl
  | ⟨2, _⟩ => rfl
  | ⟨3, _⟩ => rfl

/-- The gates as an array. -/
def gatesArray (x : FVec Ideal ⟨3, ![3, 256, 7168]⟩ .bf16) (w : FVec Ideal ⟨3, ![7168, 6, 320]⟩ .bf16) (k : FVec Ideal ⟨4, ![6, 2, 192, 160]⟩ .bf16)
    (i1 i2 : IVec ⟨4, ![3, 256, 6, 16]⟩ 32) : FVec Ideal ⟨4, ![3, 256, 6, 16]⟩ .f32 :=
  fun j => Cert.Router.gates x w k i1 i2 (j 0) (j 1) (j 2) (j 3)

/-- Both programs end with the gates in their result. -/
theorem algebraic : Cert.algebraic_KernelIdeal_ReferenceIdeal_pre_pre := by
  intro m ρ m' ρ' hpre hagree
  have hr := fun c => Cert.Pre_pre.Router.ranges _ _ _ _ _ (hpre c)
  refine ⟨fun c => gatesArray (Cert.KernelIdeal.Router.argX m c) (Cert.KernelIdeal.Router.argW m c) (Cert.KernelIdeal.Router.argK m c)
    (Cert.KernelIdeal.Router.argI m c) (Cert.KernelIdeal.Router.argJ m c), ?_, ?_⟩
  · refine (θ_run Cert.KernelIdeal.defs _ _).mono (fun r h c => ⟨?_, h.2.1 c⟩)
      (θ_run_and (Cert.KernelIdeal.Router.run_gates m ρ (fun c => (hr c).1) (fun c => (hr c).2)) (Cert.KernelIdeal.Router.frame (F := Ideal) m ρ))
    funext j
    obtain ⟨b, t, h', s, rfl⟩ : ∃ b t h' s, j = ix4 b t h' s := ⟨_, _, _, _, idx_eta j⟩
    exact h.1 c b t h' s
  · refine (θ_run Cert.ReferenceIdeal.defs _ _).mono (fun r h c => ⟨(h c).1.trans ?_, (h c).2⟩) (Cert.ReferenceIdeal.Value.run (F := Ideal) m' ρ')
    obtain ⟨e0, e1, e2, e3, e4⟩ := hagree c
    rw [Cert.ReferenceIdeal.Read.val_main_v25_eq, e0, e1, e2, e3, e4]
    funext j
    obtain ⟨b, t, h', s, rfl⟩ : ∃ b t h' s, j = ix4 b t h' s := ⟨_, _, _, _, idx_eta j⟩
    exact Cert.ReferenceIdeal.Router.reference_gates _ _ _ _ _ (hr c).1 (hr c).2 b t h' s

theorem claim : Cert.Claim := ⟨Cert.Kernel.Gen.facts, Cert.KernelIdeal.Gen.facts, Cert.ReferenceIdeal.Gen.facts, Cert.Pre_pre.Gen.facts,
  fun m ρ _ => Cert.Kernel.Router.frame m ρ,
  fun m ρ _ => Cert.KernelIdeal.Router.frame m ρ,
  fun m ρ _ => Cert.KernelIdeal.Router.frame m ρ,
  frame_reference,
  fun m ρ _ => frame_reference m ρ trivial,
  trivial,
  algebraic⟩

end Cert.Proof

end
